-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![65536, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![65536, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S2048x256 : Shape := ⟨2, ![2048, 256]⟩
abbrev S2 : Shape := ⟨1, ![2]⟩
abbrev S2x15 : Shape := ⟨2, ![2, 15]⟩
abbrev S2048x1 : Shape := ⟨2, ![2048, 1]⟩
abbrev S1x1 : Shape := ⟨2, ![1, 1]⟩
abbrev S_ : Shape := ⟨0, ![]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x512, .f32⟩
  | .local _ .vmem, ⟨0, _⟩ => ⟨S2048x512, .bf16⟩
  | .local _ .vmem, ⟨1, _⟩ => ⟨S2048x512, .f32⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 30 6 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 32
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v7 : BitVec 32 := Scalar.xori v2 c1_i32_0
  let c1_i32_3 : BitVec 32 := 1#32
  let v10 : BitVec 32 := Scalar.muli v7 c1_i32_3
  let v11 : BitVec 32 := Scalar.addi c0_i32_4 v10
  v11.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v12 : BitVec 32 := Scalar.xori v2 c1_i32_5
  let c1_i32_9 : BitVec 32 := 1#32
  let v15 : BitVec 32 := Scalar.muli v12 c1_i32_9
  let v16 : BitVec 32 := Scalar.addi c0_i32_10 v15
  v16.toNat
@[reducible] def k0_t1_loop : Scf.Loop 32 :=
  let c1_i32_14 : BitVec 32 := 1#32
  let c11_i32 : BitVec 32 := 11#32
  let v22 : BitVec 32 := Scalar.addi c1_i32_14 c11_i32
  let c1_i32_15 : BitVec 32 := 1#32
  ⟨c1_i32_14, v22, c1_i32_15⟩
@[reducible] def k0_t2_loop (k0_t1 : Fin k0_t1_loop.trips) : Scf.Loop 32 :=
  let c0_i32_1062 : BitVec 32 := 0#32
  let c1_i32_14 : BitVec 32 := 1#32
  let c1_i32_15 : BitVec 32 := 1#32
  let arg9 : BitVec 32 := Scf.iv c1_i32_14 c1_i32_15 k0_t1
  let c11_i32_1061 : BitVec 32 := 11#32
  let v1295 : BitVec 32 := Scalar.minsi arg9 c11_i32_1061
  let v1296 : BitVec 32 := Scalar.subi v1295 c0_i32_1062
  let c1_i32_1064 : BitVec 32 := 1#32
  let v1298 : BitVec 32 := Scalar.divsi v1296 c1_i32_1064
  let v1299 : BitVec 32 := Scalar.muli v1298 c1_i32_1064
  let v1300 : BitVec 32 := Scalar.addi c0_i32_1062 v1299
  let c1_i32_1065 : BitVec 32 := 1#32
  ⟨c0_i32_1062, v1300, c1_i32_1065⟩
@[reducible] def k0_t3_loop (k0_t1 : Fin k0_t1_loop.trips) : Scf.Loop 32 :=
  let c0_i32_1062 : BitVec 32 := 0#32
  let c1_i32_14 : BitVec 32 := 1#32
  let c1_i32_15 : BitVec 32 := 1#32
  let arg9 : BitVec 32 := Scf.iv c1_i32_14 c1_i32_15 k0_t1
  let c11_i32_1061 : BitVec 32 := 11#32
  let v1295 : BitVec 32 := Scalar.minsi arg9 c11_i32_1061
  let v1296 : BitVec 32 := Scalar.subi v1295 c0_i32_1062
  let c1_i32_1064 : BitVec 32 := 1#32
  let v1298 : BitVec 32 := Scalar.divsi v1296 c1_i32_1064
  let v1299 : BitVec 32 := Scalar.muli v1298 c1_i32_1064
  let v1300 : BitVec 32 := Scalar.addi c0_i32_1062 v1299
  let v1297 : BitVec 32 := Scalar.addi c0_i32_1062 v1296
  let c1_i32_1066 : BitVec 32 := 1#32
  ⟨v1300, v1297, c1_i32_1066⟩
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_20 : BitVec 32 := 1#32
  let v25 : BitVec 32 := Scalar.xori v2 c1_i32_20
  let c1_i32_23 : BitVec 32 := 1#32
  let v26 : BitVec 32 := Scalar.muli v25 c1_i32_23
  let v27 : BitVec 32 := Scalar.addi c0_i32_24 v26
  v27.toNat
@[reducible] def k0_t4_loop : Scf.Loop 32 :=
  let c1_i32_28 : BitVec 32 := 1#32
  let c11_i32_29 : BitVec 32 := 11#32
  let v37 : BitVec 32 := Scalar.addi c1_i32_28 c11_i32_29
  let c1_i32_30 : BitVec 32 := 1#32
  ⟨c1_i32_28, v37, c1_i32_30⟩
@[reducible] def k0_t5_loop (k0_t4 : Fin k0_t4_loop.trips) : Scf.Loop 32 :=
  let c0_i32_1062 : BitVec 32 := 0#32
  let c1_i32_28 : BitVec 32 := 1#32
  let c1_i32_30 : BitVec 32 := 1#32
  let arg9 : BitVec 32 := Scf.iv c1_i32_28 c1_i32_30 k0_t4
  let c11_i32_1061 : BitVec 32 := 11#32
  let v1295 : BitVec 32 := Scalar.minsi arg9 c11_i32_1061
  let v1296 : BitVec 32 := Scalar.subi v1295 c0_i32_1062
  let c1_i32_1064 : BitVec 32 := 1#32
  let v1298 : BitVec 32 := Scalar.divsi v1296 c1_i32_1064
  let v1299 : BitVec 32 := Scalar.muli v1298 c1_i32_1064
  let v1300 : BitVec 32 := Scalar.addi c0_i32_1062 v1299
  let c1_i32_1065 : BitVec 32 := 1#32
  ⟨c0_i32_1062, v1300, c1_i32_1065⟩
@[reducible] def k0_t6_loop (k0_t4 : Fin k0_t4_loop.trips) : Scf.Loop 32 :=
  let c0_i32_1062 : BitVec 32 := 0#32
  let c1_i32_28 : BitVec 32 := 1#32
  let c1_i32_30 : BitVec 32 := 1#32
  let arg9 : BitVec 32 := Scf.iv c1_i32_28 c1_i32_30 k0_t4
  let c11_i32_1061 : BitVec 32 := 11#32
  let v1295 : BitVec 32 := Scalar.minsi arg9 c11_i32_1061
  let v1296 : BitVec 32 := Scalar.subi v1295 c0_i32_1062
  let c1_i32_1064 : BitVec 32 := 1#32
  let v1298 : BitVec 32 := Scalar.divsi v1296 c1_i32_1064
  let v1299 : BitVec 32 := Scalar.muli v1298 c1_i32_1064
  let v1300 : BitVec 32 := Scalar.addi c0_i32_1062 v1299
  let v1297 : BitVec 32 := Scalar.addi c0_i32_1062 v1296
  let c1_i32_1066 : BitVec 32 := 1#32
  ⟨v1300, v1297, c1_i32_1066⟩
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_36 : BitVec 32 := 1#32
  let v40 : BitVec 32 := Scalar.xori v2 c1_i32_36
  let c1_i32_39 : BitVec 32 := 1#32
  let v41 : BitVec 32 := Scalar.muli v40 c1_i32_39
  let v42 : BitVec 32 := Scalar.addi c0_i32_40 v41
  v42.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v75 : BitVec 32 := Scalar.xori v2 c2_i32
  let c1_i32_62 : BitVec 32 := 1#32
  let v78 : BitVec 32 := Scalar.muli v75 c1_i32_62
  let v79 : BitVec 32 := Scalar.addi c0_i32_63 v78
  v79.toNat
@[reducible] def k0_t7_loop : Scf.Loop 32 :=
  let c0_i32_64 : BitVec 32 := 0#32
  let c11_i32_65 : BitVec 32 := 11#32
  let v80 : BitVec 32 := Scalar.addi c0_i32_64 c11_i32_65
  let c1_i32_66 : BitVec 32 := 1#32
  ⟨c0_i32_64, v80, c1_i32_66⟩
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_72 : BitVec 32 := 2#32
  let v83 : BitVec 32 := Scalar.xori v2 c2_i32_72
  let c1_i32_75 : BitVec 32 := 1#32
  let v84 : BitVec 32 := Scalar.muli v83 c1_i32_75
  let v85 : BitVec 32 := Scalar.addi c0_i32_76 v84
  v85.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_96 : BitVec 32 := 2#32
  let v118 : BitVec 32 := Scalar.xori v2 c2_i32_96
  let c1_i32_100 : BitVec 32 := 1#32
  let v121 : BitVec 32 := Scalar.muli v118 c1_i32_100
  let v122 : BitVec 32 := Scalar.addi c0_i32_101 v121
  v122.toNat
@[reducible] def k0_t8_loop : Scf.Loop 32 :=
  let c0_i32_102 : BitVec 32 := 0#32
  let c11_i32_103 : BitVec 32 := 11#32
  let v123 : BitVec 32 := Scalar.addi c0_i32_102 c11_i32_103
  let c1_i32_104 : BitVec 32 := 1#32
  ⟨c0_i32_102, v123, c1_i32_104⟩
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_110 : BitVec 32 := 2#32
  let v126 : BitVec 32 := Scalar.xori v2 c2_i32_110
  let c1_i32_113 : BitVec 32 := 1#32
  let v127 : BitVec 32 := Scalar.muli v126 c1_i32_113
  let v128 : BitVec 32 := Scalar.addi c0_i32_114 v127
  v128.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_132 : BitVec 32 := 1#32
  let v161 : BitVec 32 := Scalar.xori v2 c1_i32_132
  let c1_i32_136 : BitVec 32 := 1#32
  let v164 : BitVec 32 := Scalar.muli v161 c1_i32_136
  let v165 : BitVec 32 := Scalar.addi c0_i32_137 v164
  v165.toNat
def k0_dev10 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_142 : BitVec 32 := 1#32
  let v168 : BitVec 32 := Scalar.xori v2 c1_i32_142
  let c1_i32_145 : BitVec 32 := 1#32
  let v169 : BitVec 32 := Scalar.muli v168 c1_i32_145
  let v170 : BitVec 32 := Scalar.addi c0_i32_146 v169
  v170.toNat
def k0_dev11 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_166 : BitVec 32 := 1#32
  let v203 : BitVec 32 := Scalar.xori v2 c1_i32_166
  let c1_i32_170 : BitVec 32 := 1#32
  let v206 : BitVec 32 := Scalar.muli v203 c1_i32_170
  let v207 : BitVec 32 := Scalar.addi c0_i32_171 v206
  v207.toNat
def k0_dev12 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_176 : BitVec 32 := 1#32
  let v210 : BitVec 32 := Scalar.xori v2 c1_i32_176
  let c1_i32_179 : BitVec 32 := 1#32
  let v211 : BitVec 32 := Scalar.muli v210 c1_i32_179
  let v212 : BitVec 32 := Scalar.addi c0_i32_180 v211
  v212.toNat
def k0_dev13 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v245 : BitVec 32 := Scalar.xori v2 c4_i32
  let c1_i32_202 : BitVec 32 := 1#32
  let v248 : BitVec 32 := Scalar.muli v245 c1_i32_202
  let v249 : BitVec 32 := Scalar.addi c0_i32_203 v248
  v249.toNat
@[reducible] def k0_t9_loop : Scf.Loop 32 :=
  let c0_i32_204 : BitVec 32 := 0#32
  let c11_i32_205 : BitVec 32 := 11#32
  let v250 : BitVec 32 := Scalar.addi c0_i32_204 c11_i32_205
  let c1_i32_206 : BitVec 32 := 1#32
  ⟨c0_i32_204, v250, c1_i32_206⟩
def k0_dev14 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_212 : BitVec 32 := 4#32
  let v253 : BitVec 32 := Scalar.xori v2 c4_i32_212
  let c1_i32_215 : BitVec 32 := 1#32
  let v254 : BitVec 32 := Scalar.muli v253 c1_i32_215
  let v255 : BitVec 32 := Scalar.addi c0_i32_216 v254
  v255.toNat
def k0_dev15 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_236 : BitVec 32 := 4#32
  let v288 : BitVec 32 := Scalar.xori v2 c4_i32_236
  let c1_i32_240 : BitVec 32 := 1#32
  let v291 : BitVec 32 := Scalar.muli v288 c1_i32_240
  let v292 : BitVec 32 := Scalar.addi c0_i32_241 v291
  v292.toNat
@[reducible] def k0_t10_loop : Scf.Loop 32 :=
  let c0_i32_242 : BitVec 32 := 0#32
  let c11_i32_243 : BitVec 32 := 11#32
  let v293 : BitVec 32 := Scalar.addi c0_i32_242 c11_i32_243
  let c1_i32_244 : BitVec 32 := 1#32
  ⟨c0_i32_242, v293, c1_i32_244⟩
def k0_dev16 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_250 : BitVec 32 := 4#32
  let v296 : BitVec 32 := Scalar.xori v2 c4_i32_250
  let c1_i32_253 : BitVec 32 := 1#32
  let v297 : BitVec 32 := Scalar.muli v296 c1_i32_253
  let v298 : BitVec 32 := Scalar.addi c0_i32_254 v297
  v298.toNat
def k0_dev17 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_272 : BitVec 32 := 2#32
  let v331 : BitVec 32 := Scalar.xori v2 c2_i32_272
  let c1_i32_276 : BitVec 32 := 1#32
  let v334 : BitVec 32 := Scalar.muli v331 c1_i32_276
  let v335 : BitVec 32 := Scalar.addi c0_i32_277 v334
  v335.toNat
def k0_dev18 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_282 : BitVec 32 := 2#32
  let v338 : BitVec 32 := Scalar.xori v2 c2_i32_282
  let c1_i32_285 : BitVec 32 := 1#32
  let v339 : BitVec 32 := Scalar.muli v338 c1_i32_285
  let v340 : BitVec 32 := Scalar.addi c0_i32_286 v339
  v340.toNat
def k0_dev19 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_306 : BitVec 32 := 2#32
  let v373 : BitVec 32 := Scalar.xori v2 c2_i32_306
  let c1_i32_310 : BitVec 32 := 1#32
  let v376 : BitVec 32 := Scalar.muli v373 c1_i32_310
  let v377 : BitVec 32 := Scalar.addi c0_i32_311 v376
  v377.toNat
def k0_dev20 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_316 : BitVec 32 := 2#32
  let v380 : BitVec 32 := Scalar.xori v2 c2_i32_316
  let c1_i32_319 : BitVec 32 := 1#32
  let v381 : BitVec 32 := Scalar.muli v380 c1_i32_319
  let v382 : BitVec 32 := Scalar.addi c0_i32_320 v381
  v382.toNat
def k0_dev21 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_340 : BitVec 32 := 1#32
  let v415 : BitVec 32 := Scalar.xori v2 c1_i32_340
  let c1_i32_343 : BitVec 32 := 1#32
  let v418 : BitVec 32 := Scalar.muli v415 c1_i32_343
  let v419 : BitVec 32 := Scalar.addi c0_i32_344 v418
  v419.toNat
def k0_dev22 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_349 : BitVec 32 := 1#32
  let v422 : BitVec 32 := Scalar.xori v2 c1_i32_349
  let c1_i32_352 : BitVec 32 := 1#32
  let v423 : BitVec 32 := Scalar.muli v422 c1_i32_352
  let v424 : BitVec 32 := Scalar.addi c0_i32_353 v423
  v424.toNat
def k0_dev23 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_373 : BitVec 32 := 1#32
  let v457 : BitVec 32 := Scalar.xori v2 c1_i32_373
  let c1_i32_377 : BitVec 32 := 1#32
  let v460 : BitVec 32 := Scalar.muli v457 c1_i32_377
  let v461 : BitVec 32 := Scalar.addi c0_i32_378 v460
  v461.toNat
def k0_dev24 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_383 : BitVec 32 := 1#32
  let v464 : BitVec 32 := Scalar.xori v2 c1_i32_383
  let c1_i32_386 : BitVec 32 := 1#32
  let v465 : BitVec 32 := Scalar.muli v464 c1_i32_386
  let v466 : BitVec 32 := Scalar.addi c0_i32_387 v465
  v466.toNat
def k0_dev25 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v499 : BitVec 32 := Scalar.xori v2 c8_i32
  let c1_i32_409 : BitVec 32 := 1#32
  let v502 : BitVec 32 := Scalar.muli v499 c1_i32_409
  let v503 : BitVec 32 := Scalar.addi c0_i32_410 v502
  v503.toNat
@[reducible] def k0_t11_loop : Scf.Loop 32 :=
  let c0_i32_411 : BitVec 32 := 0#32
  let c11_i32_412 : BitVec 32 := 11#32
  let v504 : BitVec 32 := Scalar.addi c0_i32_411 c11_i32_412
  let c1_i32_413 : BitVec 32 := 1#32
  ⟨c0_i32_411, v504, c1_i32_413⟩
def k0_dev26 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_419 : BitVec 32 := 8#32
  let v507 : BitVec 32 := Scalar.xori v2 c8_i32_419
  let c1_i32_422 : BitVec 32 := 1#32
  let v508 : BitVec 32 := Scalar.muli v507 c1_i32_422
  let v509 : BitVec 32 := Scalar.addi c0_i32_423 v508
  v509.toNat
def k0_dev27 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_443 : BitVec 32 := 8#32
  let v542 : BitVec 32 := Scalar.xori v2 c8_i32_443
  let c1_i32_447 : BitVec 32 := 1#32
  let v545 : BitVec 32 := Scalar.muli v542 c1_i32_447
  let v546 : BitVec 32 := Scalar.addi c0_i32_448 v545
  v546.toNat
@[reducible] def k0_t12_loop : Scf.Loop 32 :=
  let c0_i32_449 : BitVec 32 := 0#32
  let c11_i32_450 : BitVec 32 := 11#32
  let v547 : BitVec 32 := Scalar.addi c0_i32_449 c11_i32_450
  let c1_i32_451 : BitVec 32 := 1#32
  ⟨c0_i32_449, v547, c1_i32_451⟩
def k0_dev28 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_457 : BitVec 32 := 8#32
  let v550 : BitVec 32 := Scalar.xori v2 c8_i32_457
  let c1_i32_460 : BitVec 32 := 1#32
  let v551 : BitVec 32 := Scalar.muli v550 c1_i32_460
  let v552 : BitVec 32 := Scalar.addi c0_i32_461 v551
  v552.toNat
def k0_dev29 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_479 : BitVec 32 := 4#32
  let v585 : BitVec 32 := Scalar.xori v2 c4_i32_479
  let c1_i32_482 : BitVec 32 := 1#32
  let v588 : BitVec 32 := Scalar.muli v585 c1_i32_482
  let v589 : BitVec 32 := Scalar.addi c0_i32_483 v588
  v589.toNat
def k0_dev30 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_488 : BitVec 32 := 4#32
  let v592 : BitVec 32 := Scalar.xori v2 c4_i32_488
  let c1_i32_491 : BitVec 32 := 1#32
  let v593 : BitVec 32 := Scalar.muli v592 c1_i32_491
  let v594 : BitVec 32 := Scalar.addi c0_i32_492 v593
  v594.toNat
def k0_dev31 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_512 : BitVec 32 := 4#32
  let v627 : BitVec 32 := Scalar.xori v2 c4_i32_512
  let c1_i32_516 : BitVec 32 := 1#32
  let v630 : BitVec 32 := Scalar.muli v627 c1_i32_516
  let v631 : BitVec 32 := Scalar.addi c0_i32_517 v630
  v631.toNat
def k0_dev32 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_522 : BitVec 32 := 4#32
  let v634 : BitVec 32 := Scalar.xori v2 c4_i32_522
  let c1_i32_525 : BitVec 32 := 1#32
  let v635 : BitVec 32 := Scalar.muli v634 c1_i32_525
  let v636 : BitVec 32 := Scalar.addi c0_i32_526 v635
  v636.toNat
def k0_dev33 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_546 : BitVec 32 := 2#32
  let v669 : BitVec 32 := Scalar.xori v2 c2_i32_546
  let c1_i32_550 : BitVec 32 := 1#32
  let v672 : BitVec 32 := Scalar.muli v669 c1_i32_550
  let v673 : BitVec 32 := Scalar.addi c0_i32_551 v672
  v673.toNat
def k0_dev34 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_556 : BitVec 32 := 2#32
  let v676 : BitVec 32 := Scalar.xori v2 c2_i32_556
  let c1_i32_559 : BitVec 32 := 1#32
  let v677 : BitVec 32 := Scalar.muli v676 c1_i32_559
  let v678 : BitVec 32 := Scalar.addi c0_i32_560 v677
  v678.toNat
def k0_dev35 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_580 : BitVec 32 := 2#32
  let v711 : BitVec 32 := Scalar.xori v2 c2_i32_580
  let c1_i32_584 : BitVec 32 := 1#32
  let v714 : BitVec 32 := Scalar.muli v711 c1_i32_584
  let v715 : BitVec 32 := Scalar.addi c0_i32_585 v714
  v715.toNat
def k0_dev36 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_590 : BitVec 32 := 2#32
  let v718 : BitVec 32 := Scalar.xori v2 c2_i32_590
  let c1_i32_593 : BitVec 32 := 1#32
  let v719 : BitVec 32 := Scalar.muli v718 c1_i32_593
  let v720 : BitVec 32 := Scalar.addi c0_i32_594 v719
  v720.toNat
def k0_dev37 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_614 : BitVec 32 := 1#32
  let v753 : BitVec 32 := Scalar.xori v2 c1_i32_614
  let c1_i32_617 : BitVec 32 := 1#32
  let v756 : BitVec 32 := Scalar.muli v753 c1_i32_617
  let v757 : BitVec 32 := Scalar.addi c0_i32_618 v756
  v757.toNat
def k0_dev38 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_623 : BitVec 32 := 1#32
  let v760 : BitVec 32 := Scalar.xori v2 c1_i32_623
  let c1_i32_626 : BitVec 32 := 1#32
  let v761 : BitVec 32 := Scalar.muli v760 c1_i32_626
  let v762 : BitVec 32 := Scalar.addi c0_i32_627 v761
  v762.toNat
def k0_dev39 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_647 : BitVec 32 := 1#32
  let v795 : BitVec 32 := Scalar.xori v2 c1_i32_647
  let c1_i32_651 : BitVec 32 := 1#32
  let v798 : BitVec 32 := Scalar.muli v795 c1_i32_651
  let v799 : BitVec 32 := Scalar.addi c0_i32_652 v798
  v799.toNat
def k0_dev40 (d0 : Dev nD) : Nat :=
  let c0_i32_661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_657 : BitVec 32 := 1#32
  let v802 : BitVec 32 := Scalar.xori v2 c1_i32_657
  let c1_i32_660 : BitVec 32 := 1#32
  let v803 : BitVec 32 := Scalar.muli v802 c1_i32_660
  let v804 : BitVec 32 := Scalar.addi c0_i32_661 v803
  v804.toNat
def k0_dev41 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v837 : BitVec 32 := Scalar.xori v2 c16_i32
  let c1_i32_683 : BitVec 32 := 1#32
  let v840 : BitVec 32 := Scalar.muli v837 c1_i32_683
  let v841 : BitVec 32 := Scalar.addi c0_i32_684 v840
  v841.toNat
@[reducible] def k0_t13_loop : Scf.Loop 32 :=
  let c0_i32_685 : BitVec 32 := 0#32
  let c11_i32_686 : BitVec 32 := 11#32
  let v842 : BitVec 32 := Scalar.addi c0_i32_685 c11_i32_686
  let c1_i32_687 : BitVec 32 := 1#32
  ⟨c0_i32_685, v842, c1_i32_687⟩
def k0_dev42 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_693 : BitVec 32 := 16#32
  let v845 : BitVec 32 := Scalar.xori v2 c16_i32_693
  let c1_i32_696 : BitVec 32 := 1#32
  let v846 : BitVec 32 := Scalar.muli v845 c1_i32_696
  let v847 : BitVec 32 := Scalar.addi c0_i32_697 v846
  v847.toNat
def k0_dev43 (d0 : Dev nD) : Nat :=
  let c0_i32_722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_717 : BitVec 32 := 16#32
  let v880 : BitVec 32 := Scalar.xori v2 c16_i32_717
  let c1_i32_721 : BitVec 32 := 1#32
  let v883 : BitVec 32 := Scalar.muli v880 c1_i32_721
  let v884 : BitVec 32 := Scalar.addi c0_i32_722 v883
  v884.toNat
@[reducible] def k0_t14_loop : Scf.Loop 32 :=
  let c0_i32_723 : BitVec 32 := 0#32
  let c11_i32_724 : BitVec 32 := 11#32
  let v885 : BitVec 32 := Scalar.addi c0_i32_723 c11_i32_724
  let c1_i32_725 : BitVec 32 := 1#32
  ⟨c0_i32_723, v885, c1_i32_725⟩
def k0_dev44 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_731 : BitVec 32 := 16#32
  let v888 : BitVec 32 := Scalar.xori v2 c16_i32_731
  let c1_i32_734 : BitVec 32 := 1#32
  let v889 : BitVec 32 := Scalar.muli v888 c1_i32_734
  let v890 : BitVec 32 := Scalar.addi c0_i32_735 v889
  v890.toNat
def k0_dev45 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_754 : BitVec 32 := 8#32
  let v923 : BitVec 32 := Scalar.xori v2 c8_i32_754
  let c1_i32_758 : BitVec 32 := 1#32
  let v926 : BitVec 32 := Scalar.muli v923 c1_i32_758
  let v927 : BitVec 32 := Scalar.addi c0_i32_759 v926
  v927.toNat
def k0_dev46 (d0 : Dev nD) : Nat :=
  let c0_i32_768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_764 : BitVec 32 := 8#32
  let v930 : BitVec 32 := Scalar.xori v2 c8_i32_764
  let c1_i32_767 : BitVec 32 := 1#32
  let v931 : BitVec 32 := Scalar.muli v930 c1_i32_767
  let v932 : BitVec 32 := Scalar.addi c0_i32_768 v931
  v932.toNat
def k0_dev47 (d0 : Dev nD) : Nat :=
  let c0_i32_793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_788 : BitVec 32 := 8#32
  let v965 : BitVec 32 := Scalar.xori v2 c8_i32_788
  let c1_i32_792 : BitVec 32 := 1#32
  let v968 : BitVec 32 := Scalar.muli v965 c1_i32_792
  let v969 : BitVec 32 := Scalar.addi c0_i32_793 v968
  v969.toNat
def k0_dev48 (d0 : Dev nD) : Nat :=
  let c0_i32_802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_798 : BitVec 32 := 8#32
  let v972 : BitVec 32 := Scalar.xori v2 c8_i32_798
  let c1_i32_801 : BitVec 32 := 1#32
  let v973 : BitVec 32 := Scalar.muli v972 c1_i32_801
  let v974 : BitVec 32 := Scalar.addi c0_i32_802 v973
  v974.toNat
def k0_dev49 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_822 : BitVec 32 := 4#32
  let v1007 : BitVec 32 := Scalar.xori v2 c4_i32_822
  let c1_i32_826 : BitVec 32 := 1#32
  let v1010 : BitVec 32 := Scalar.muli v1007 c1_i32_826
  let v1011 : BitVec 32 := Scalar.addi c0_i32_827 v1010
  v1011.toNat
def k0_dev50 (d0 : Dev nD) : Nat :=
  let c0_i32_836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_832 : BitVec 32 := 4#32
  let v1014 : BitVec 32 := Scalar.xori v2 c4_i32_832
  let c1_i32_835 : BitVec 32 := 1#32
  let v1015 : BitVec 32 := Scalar.muli v1014 c1_i32_835
  let v1016 : BitVec 32 := Scalar.addi c0_i32_836 v1015
  v1016.toNat
def k0_dev51 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_856 : BitVec 32 := 4#32
  let v1049 : BitVec 32 := Scalar.xori v2 c4_i32_856
  let c1_i32_860 : BitVec 32 := 1#32
  let v1052 : BitVec 32 := Scalar.muli v1049 c1_i32_860
  let v1053 : BitVec 32 := Scalar.addi c0_i32_861 v1052
  v1053.toNat
def k0_dev52 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_866 : BitVec 32 := 4#32
  let v1056 : BitVec 32 := Scalar.xori v2 c4_i32_866
  let c1_i32_869 : BitVec 32 := 1#32
  let v1057 : BitVec 32 := Scalar.muli v1056 c1_i32_869
  let v1058 : BitVec 32 := Scalar.addi c0_i32_870 v1057
  v1058.toNat
def k0_dev53 (d0 : Dev nD) : Nat :=
  let c0_i32_895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_890 : BitVec 32 := 2#32
  let v1091 : BitVec 32 := Scalar.xori v2 c2_i32_890
  let c1_i32_894 : BitVec 32 := 1#32
  let v1094 : BitVec 32 := Scalar.muli v1091 c1_i32_894
  let v1095 : BitVec 32 := Scalar.addi c0_i32_895 v1094
  v1095.toNat
def k0_dev54 (d0 : Dev nD) : Nat :=
  let c0_i32_904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_900 : BitVec 32 := 2#32
  let v1098 : BitVec 32 := Scalar.xori v2 c2_i32_900
  let c1_i32_903 : BitVec 32 := 1#32
  let v1099 : BitVec 32 := Scalar.muli v1098 c1_i32_903
  let v1100 : BitVec 32 := Scalar.addi c0_i32_904 v1099
  v1100.toNat
def k0_dev55 (d0 : Dev nD) : Nat :=
  let c0_i32_929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_924 : BitVec 32 := 2#32
  let v1133 : BitVec 32 := Scalar.xori v2 c2_i32_924
  let c1_i32_928 : BitVec 32 := 1#32
  let v1136 : BitVec 32 := Scalar.muli v1133 c1_i32_928
  let v1137 : BitVec 32 := Scalar.addi c0_i32_929 v1136
  v1137.toNat
def k0_dev56 (d0 : Dev nD) : Nat :=
  let c0_i32_938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_934 : BitVec 32 := 2#32
  let v1140 : BitVec 32 := Scalar.xori v2 c2_i32_934
  let c1_i32_937 : BitVec 32 := 1#32
  let v1141 : BitVec 32 := Scalar.muli v1140 c1_i32_937
  let v1142 : BitVec 32 := Scalar.addi c0_i32_938 v1141
  v1142.toNat
def k0_dev57 (d0 : Dev nD) : Nat :=
  let c0_i32_963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_958 : BitVec 32 := 1#32
  let v1175 : BitVec 32 := Scalar.xori v2 c1_i32_958
  let c1_i32_962 : BitVec 32 := 1#32
  let v1178 : BitVec 32 := Scalar.muli v1175 c1_i32_962
  let v1179 : BitVec 32 := Scalar.addi c0_i32_963 v1178
  v1179.toNat
def k0_dev58 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_968 : BitVec 32 := 1#32
  let v1182 : BitVec 32 := Scalar.xori v2 c1_i32_968
  let c1_i32_971 : BitVec 32 := 1#32
  let v1183 : BitVec 32 := Scalar.muli v1182 c1_i32_971
  let v1184 : BitVec 32 := Scalar.addi c0_i32_972 v1183
  v1184.toNat
def k0_dev59 (d0 : Dev nD) : Nat :=
  let c0_i32_997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_992 : BitVec 32 := 1#32
  let v1217 : BitVec 32 := Scalar.xori v2 c1_i32_992
  let c1_i32_996 : BitVec 32 := 1#32
  let v1220 : BitVec 32 := Scalar.muli v1217 c1_i32_996
  let v1221 : BitVec 32 := Scalar.addi c0_i32_997 v1220
  v1221.toNat
def k0_dev60 (d0 : Dev nD) : Nat :=
  let c0_i32_1006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1002 : BitVec 32 := 1#32
  let v1224 : BitVec 32 := Scalar.xori v2 c1_i32_1002
  let c1_i32_1005 : BitVec 32 := 1#32
  let v1225 : BitVec 32 := Scalar.muli v1224 c1_i32_1005
  let v1226 : BitVec 32 := Scalar.addi c0_i32_1006 v1225
  v1226.toNat
@[reducible] def k0_t15_loop : Scf.Loop 32 :=
  let c0_i32_1026 : BitVec 32 := 0#32
  let c11_i32_1027 : BitVec 32 := 11#32
  let v1259 : BitVec 32 := Scalar.addi c0_i32_1026 c11_i32_1027
  let c1_i32_1028 : BitVec 32 := 1#32
  ⟨c0_i32_1026, v1259, c1_i32_1028⟩
@[reducible] def k0_t16_loop : Scf.Loop 32 :=
  let c0_i32_1049 : BitVec 32 := 0#32
  let c11_i32_1050 : BitVec 32 := 11#32
  let v1288 : BitVec 32 := Scalar.addi c0_i32_1049 c11_i32_1050
  let c1_i32_1051 : BitVec 32 := 1#32
  ⟨c0_i32_1049, v1288, c1_i32_1051⟩
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x512 : Shape := ⟨2, ![65536, 512]⟩

abbrev nBuf : Space → Nat
  | .hbm => 3
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .f32⟩
  | .hbm, ⟨2, _⟩ => ⟨S65536x512, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.KernelIdeal.Program.lean ====
/-
  The kernel's body as a program over the exchange number: the printed body is one straight run of two hundred and
  seventy operations, the same few groups of operations repeated for each of the two column chunks and each of the
  fifteen exchanges. Here each group is a definition over the chunk and the exchange, the body is their sequence
  (`body`), and the printed body is shown equal to it (`cc0_body_eq`).
-/
module

public import proofs.«01_k».proof.Proof.Gen.KernelIdeal.Skeleton

@[expose] public section

noncomputable section

namespace Cert.Proof.KernelIdeal

open Cert.KernelIdeal Cert.KernelIdeal.Gen
open Idealize.ShloMosaic Idealize.ShloMosaic.TcCoe Idealize.SL.Sem

variable {F : FTy → Type} [FloatOps F]

/-! ## The exchanges' table -/

/-- The level of the bitonic network exchange `k` belongs to (the bit of a row's position that says which way its run
    is sorted). -/
def lvl : ℕ → BitVec 32
  | 0 => 12#32 | 1 => 13#32 | 2 => 13#32 | 3 => 14#32 | 4 => 14#32 | 5 => 14#32 | 6 => 15#32 | 7 => 15#32 | 8 => 15#32
  | 9 => 15#32 | _ => 16#32

/-- The distance, in rows, of exchange `k`. -/
def dist : ℕ → BitVec 32
  | 0 => 2048#32 | 1 => 4096#32 | 2 => 2048#32 | 3 => 8192#32 | 4 => 4096#32 | 5 => 2048#32 | 6 => 16384#32
  | 7 => 8192#32 | 8 => 4096#32 | 9 => 2048#32 | 10 => 32768#32 | 11 => 16384#32 | 12 => 8192#32 | 13 => 4096#32
  | _ => 2048#32

/-- The same distance in devices. -/
def delta : ℕ → BitVec 32
  | 0 => 1#32 | 1 => 2#32 | 2 => 1#32 | 3 => 4#32 | 4 => 2#32 | 5 => 1#32 | 6 => 8#32 | 7 => 4#32 | 8 => 2#32
  | 9 => 1#32 | 10 => 16#32 | 11 => 8#32 | 12 => 4#32 | 13 => 2#32 | _ => 1#32

/-- Whether exchange `k` is the last of its level, and so followed by the level's stages inside a device. -/
def closes : ℕ → Bool
  | 0 => true | 2 => true | 5 => true | 9 => true | 14 => true | _ => false

theorem delta_cases (k : ℕ) : delta k = 1#32 ∨ delta k = 2#32 ∨ delta k = 4#32 ∨ delta k = 8#32 ∨ delta k = 16#32 := by
  unfold delta; split <;> simp

/-- The device at `x` devices' distance, as the kernel computes it. -/
abbrev across (x : BitVec 32) (d : Dev nD) : Nat :=
  (Scalar.addi 0#32 (Scalar.muli (Scalar.xori (Scalar.remsi (Scalar.divsi (Dev.word d) 1#32) 32#32) x) 1#32)).toNat

theorem across_lt (k : ℕ) (d : Dev nD) : across (delta k) d < nD := by
  rcases delta_cases k with h | h | h | h | h <;> rw [h] <;> revert d <;> decide +kernel

/-- Exchange `k`'s partner of device `d`. -/
def prt (k : ℕ) (d : Dev nD) : Dev nD := ⟨across (delta k) d, across_lt k d⟩

theorem prt_prt (k : ℕ) (d : Dev nD) : prt k (prt k d) = d := by
  have h : ∀ x : BitVec 32, x = 1#32 ∨ x = 2#32 ∨ x = 4#32 ∨ x = 8#32 ∨ x = 16#32 →
      ∀ d : Dev nD, ∀ h : across x d < nD, across x (⟨across x d, h⟩ : Dev nD) = d.val := by
    rintro x (h | h | h | h | h) <;> rw [h] <;> decide +kernel
  exact Fin.ext (h _ (delta_cases k) d (across_lt k d))

/-! ## The stages, on values -/

/-- The global positions of device `d`'s rows. -/
abbrev posOf (d : Dev nD) : IVec S2048x1 32 := k0_pay5 d

/-- Whether a row's position has the bit of `x` set, -/
abbrev bitAt (v6 : IVec S2048x1 32) (x : BitVec 32) : IVec S2048x1 1 :=
  cmpi .ne (andi v6 (broadcast S2048x1 x)) (broadcast S2048x1 0#32)
/-- and whether its run at level `l` is sorted upwards. -/
abbrev ascAt (v6 : IVec S2048x1 32) (l : BitVec 32) : IVec S2048x1 1 :=
  cmpi .eq (andi (shrsi v6 (broadcast S2048x1 l)) (broadcast S2048x1 1#32)) (broadcast S2048x1 0#32)

/-- A row's flag, over its columns. -/
abbrev wide (b : IVec S2048x1 1) : IVec S2048x256 1 :=
  broadcastTo S2048x256 (shapeCast S2048x1 b shapeCasts_S2048x1_S2048x1) broadcasts_S2048x1_S2048x256

/-- One compare-exchange of the values `z` against the partners' values `r`: a row keeps the smaller or the larger. -/
def exch (v6 : IVec S2048x1 32) (l x : BitVec 32) (z r : FVec F S2048x256 .bf16) : FVec F S2048x256 .bf16 :=
  shapeCast S2048x256 (select (wide (xori (bitAt v6 x) (ascAt v6 l))) (minimumf z r) (maximumf z r)) shapeCasts_S2048x256_S2048x256

/-- The values of the rows at distance `x` inside the device. -/
def within (v6 : IVec S2048x1 32) (x : BitVec 32) (z : FVec F S2048x256 .bf16) : FVec F S2048x256 .bf16 :=
  select (wide (bitAt v6 x)) (dynamicRotate 0 x none z rotates_S2048x256_d0)
    (dynamicRotate 0 (Scalar.subi 2048#32 x) none z rotates_S2048x256_d0)

/-- One stage inside the device. -/
def local1 (v6 : IVec S2048x1 32) (l x : BitVec 32) (z : FVec F S2048x256 .bf16) : FVec F S2048x256 .bf16 :=
  exch v6 l x z (within v6 x z)

/-! ## The memrefs and the semaphores -/

/-- The chunk's working buffer and its landing buffer. -/
def wM : Fin 2 → Memref sig .tc .vmem S2048x256 .bf16
  | 0 => Memref.whole cc0_scratch0 | 1 => Memref.whole cc0_scratch1
def rM : Fin 2 → Memref sig .tc .vmem S2048x256 .bf16
  | 0 => Memref.whole cc0_scratch2 | 1 => Memref.whole cc0_scratch3
/-- The block of `x` and the block of the result. -/
abbrev xM : Memref sig .tc .vmem S2048x512 .bf16 := Memref.whole cc0_stg0_0
abbrev oM : Memref sig .tc .vmem S2048x512 .f32 := Memref.whole cc0_stg1_0

theorem wM_whole (ch : Fin 2) : (wM ch).IsWhole := match ch with | 0 => Memref.isWhole_whole _ | 1 => Memref.isWhole_whole _
theorem rM_whole (ch : Fin 2) : (rM ch).IsWhole := match ch with | 0 => Memref.isWhole_whole _ | 1 => Memref.isWhole_whole _

/-- The chunk's send, receive and (one per exchange) ready semaphores. -/
def sendS (ch : Fin 2) : DmaSem sig := ⟨2 + ch.val, by have := ch.isLt; change _ < 6; omega⟩
def recvS (ch : Fin 2) : DmaSem sig := ⟨4 + ch.val, by have := ch.isLt; change _ < 6; omega⟩
def readyS (ch : Fin 2) (k : ℕ) : Sem sig := ⟨(15 * ch.val + k) % 30, by change _ < 30; omega⟩

/-- A working or landing buffer's whole rectangle, -/
abbrev rW : Rect S2048x256 := Rect.unit (s := S2048x256) ![0, 0] S2048x256.size inb_S2048x256_S2048x256_0_0
/-- a chunk's columns in the block of `x` and in the result's. -/
abbrev rX (ch : Fin 2) : Rect S2048x512 := Rect.unit (s := S2048x512) ![0, 256 * ch.val] S2048x256.size (by
  revert ch; decide)

/-! ## The groups of operations -/

abbrev P (α : Type) : Type 1 := Prog (TpuEff nD τ sig (Elt F) Λ₀ .tc) α

/-- Load a buffer of a chunk whole; -/
def loadM (m : Memref sig .tc .vmem S2048x256 .bf16) : P (F := F) (Vec F S2048x256 .bf16) :=
  Prog.lift (.load m rW.toLoadRect (View.loadsAt_vmem h_S2048x256))
/-- store it whole. -/
def storeM (m : Memref sig .tc .vmem S2048x256 .bf16) (hm : m.IsWhole) (v : FVec F S2048x256 .bf16) : P (F := F) PUnit :=
  Prog.lift (.store m rW v Finset.univ (View.stores_vmem h_S2048x256 (hm.storeExact_slice rfl _ packedbf16_S2048x256_S2048x256_0_0) (fun _ => rfl)) (.inl rfl))

/-- Rewrite the working buffer by a stage (the value stored over is loaded too, and not used). -/
def upd (ch : Fin 2) (f : FVec F S2048x256 .bf16 → FVec F S2048x256 .bf16) : P (F := F) PUnit := do
  let z ← loadM (wM ch)
  let _ ← loadM (wM ch)
  storeM (wM ch) (wM_whole ch) (f z)

/-- Tell the partner of exchange `k` that the landing buffer is free. -/
def grant (d : Dev nD) (ch : Fin 2) (k : ℕ) : P (F := F) PUnit :=
  semSignalWord (prt k d) (readyS ch k) 1#32

/-- Wait for the partner's word and send it the working buffer. -/
def go (d : Dev nD) (ch : Fin 2) (k : ℕ) : P (F := F) PUnit := do
  semWaitWord (readyS ch k) 1#32
  Prog.lift (.enqueueDma (wM ch) (.remote (Dev.tc (prt k d)) (rM ch) (.dma (sendS ch)) (match ch with | 0 => rfl | 1 => rfl)) (.dma (recvS ch))
    (wM_whole ch).wordExact (rM_whole ch).wordExact ⟨⟨rfl, Or.inl rfl⟩, trivial⟩)

/-- Take a chunk of the block of `x` into the working buffer. -/
def take (ch : Fin 2) : P (F := F) PUnit := do
  let z ← Prog.lift (.load xM (rX ch).toLoadRect (View.loadsAt_vmem h_S2048x256))
  let _ ← loadM (wM ch)
  storeM (wM ch) (wM_whole ch) (shapeCast S2048x256 (shapeCast S2048x256 z shapeCasts_S2048x256_S2048x256) shapeCasts_S2048x256_S2048x256)

/-- The induction variable of the local sort's outer loop (the level), and the distance of its inner loop's trip. -/
abbrev ivL (t : Fin k0_t1_loop.trips) : BitVec 32 := Scf.iv 1#32 1#32 t
abbrev ivD (t : Fin k0_t1_loop.trips) (s : Fin (k0_t2_loop t).trips) : BitVec 32 :=
  Scalar.shli 1#32 (Scalar.subi (Scalar.subi (ivL t) 1#32) (Scf.iv 0#32 1#32 s))

/-- One level of the local sort: its stages, and a loop of no trip after them. -/
def sortLevel (ch : Fin 2) (v6 : IVec S2048x1 32) (t : Fin k0_t1_loop.trips) (_ : Unit) : P (F := F) Unit := do
  let v ← Scf.Loop.for (k0_t2_loop t) (k0_t2_ok t) 0#32 fun s _ => do
    upd ch (local1 v6 (ivL t) (ivD t s))
    pure 0#32
  let _ ← Scf.Loop.for (k0_t3_loop t) (k0_t3_ok t) v fun s _ => do
    upd ch (k0_pay11 v6 t s)
    pure 0#32
  pure ⟨⟩

/-- The local sort. -/
def sortP (ch : Fin 2) (v6 : IVec S2048x1 32) : P (F := F) Unit :=
  Scf.Loop.for k0_t1_loop k0_t1_ok ⟨⟩ (sortLevel ch v6)

/-- A merge's distance at trip `t`, -/
abbrev mrgD (t : Fin k0_t7_loop.trips) : BitVec 32 := Scalar.shli 1#32 (Scalar.subi 10#32 (Scf.iv 0#32 1#32 t))

/-- the stages inside a device that end level `l`. -/
def mergeP (ch : Fin 2) (v6 : IVec S2048x1 32) (l : BitVec 32) : P (F := F) Unit :=
  Scf.Loop.for k0_t7_loop k0_t7_ok ⟨⟩ fun t _ => do
    upd ch (local1 v6 l (mrgD t))
    pure ⟨⟩

/-- The end of exchange `k`: both waits, and the compare-exchange of the working buffer against what landed. -/
def half (d : Dev nD) (ch : Fin 2) (k : ℕ) : P (F := F) PUnit := do
  Prog.lift (.waitDma2 (sendS ch) (rM ch) (wM ch) (rM_whole ch).wordExact (wM_whole ch).wordExact)
  Prog.lift (.waitDma2 (recvS ch) (wM ch) (rM ch) (wM_whole ch).wordExact (rM_whole ch).wordExact)
  let z ← loadM (wM ch)
  let r ← loadM (rM ch)
  let _ ← loadM (wM ch)
  storeM (wM ch) (wM_whole ch) (exch (posOf d) (lvl k) (dist k) z r)

/-- The end of exchange `k` of a chunk and the start of its next. -/
def step (d : Dev nD) (ch : Fin 2) (k : ℕ) : P (F := F) PUnit := do
  half d ch k
  bif k.blt 14 then grant d ch (k + 1) else pure ⟨⟩
  bif closes k then mergeP ch (posOf d) (lvl k) else pure ⟨⟩
  bif k.blt 14 then go d ch (k + 1) else pure ⟨⟩

/-- The first `n` exchanges, of both chunks. -/
def steps (d : Dev nD) : ℕ → P (F := F) PUnit
  | 0 => pure ⟨⟩
  | n + 1 => do
    steps d n
    step d 0 n
    step d 1 n

/-- Give a chunk to the result. -/
def give (ch : Fin 2) : P (F := F) PUnit := do
  let z ← loadM (wM ch)
  let _ ← Prog.lift (.load oM (rX ch).toLoadRect (View.loadsAt_vmem h_S2048x256))
  Prog.lift (.store oM (rX ch) (extf .f32 z bitsLt_bf16_f32) Finset.univ (View.stores_vmem_bits_univ h_S2048x256 rfl) (.inl rfl))

/-- The kernel's body. -/
def body : P (F := F) PUnit := do
  let d ← Prog.lift .deviceId
  grant d 0 0
  grant d 1 0
  take 0
  sortP 0 (posOf d)
  go d 0 0
  take 1
  sortP 1 (posOf d)
  go d 1 0
  steps d 15
  give 0
  give 1

end Cert.Proof.KernelIdeal

end
-- ==== Proof.KernelIdeal.BodyEq.lean ====
/-
  The printed body is the program of `Program`: opened into its operations, with the sequencing brought to one shape, it
  is the same term.
-/
module

public import proofs.«01_k».proof.Proof.KernelIdeal.Program

@[expose] public section
noncomputable section
namespace Cert.Proof.KernelIdeal
open Cert.KernelIdeal Cert.KernelIdeal.Gen
open Idealize.ShloMosaic Idealize.ShloMosaic.TcCoe Idealize.SL.Sem
variable {F : FTy → Type} [FloatOps F]
set_option maxRecDepth 100000 in
set_option maxHeartbeats 4000000 in
/-- The kernel's printed body, at the launch's memrefs and semaphores, is `body`. -/
theorem cc0_body_eq : cc0_body (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 = body (F := F) := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, Prog.bind_assoc, Prog.pure_eq_ret, Prog.bind_ret,
    body, steps, step, half, grant, go, take, give, Nat.blt, closes, cond_true, cond_false]
  rfl
end Cert.Proof.KernelIdeal
end
-- ==== Proof.KernelIdeal.MachineEq.lean ====
/-
  The machine kernel's printed body is the same program as the ideal one's: opened into its operations, with the
  sequencing brought to one shape, it is the program of `Program` too.
-/
module

public import proofs.«01_k».proof.Proof.KernelIdeal.Program
public import proofs.«01_k».proof.Proof.Gen.Kernel.Skeleton

@[expose] public section
noncomputable section
namespace Cert.Proof.KernelIdeal
open Cert.KernelIdeal Cert.KernelIdeal.Gen
open Idealize.ShloMosaic Idealize.ShloMosaic.TcCoe Idealize.SL.Sem
variable {F : FTy → Type} [FloatOps F]
set_option maxRecDepth 100000 in
set_option maxHeartbeats 4000000 in
/-- The machine kernel's body, over any interpretation of the floats, is `body`. -/
theorem kernel_body_eq : Cert.Kernel.cc0_body (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) Cert.Kernel.cc0_scratch4 Cert.Kernel.cc0_scratch5 Cert.Kernel.cc0_scratch6 = body (F := F) := by
  simp only [Cert.Kernel.Gen.cc0_body_eq_skeleton, Cert.Kernel.Gen.cc0_body_skel, Cert.Kernel.Gen.k0_part1_eq_skeleton, Cert.Kernel.Gen.k0_part1_skel, Cert.Kernel.Gen.k0_part2_eq_skeleton, Cert.Kernel.Gen.k0_part2_skel, Cert.Kernel.Gen.k0_part3_eq_skeleton, Cert.Kernel.Gen.k0_part3_skel, Cert.Kernel.Gen.k0_part4_eq_skeleton, Cert.Kernel.Gen.k0_part4_skel, Cert.Kernel.Gen.k0_part5_eq_skeleton, Cert.Kernel.Gen.k0_part5_skel, Cert.Kernel.Gen.k0_part6_eq_skeleton, Cert.Kernel.Gen.k0_part6_skel, Cert.Kernel.Gen.k0_part7_eq_skeleton, Cert.Kernel.Gen.k0_part7_skel, Cert.Kernel.Gen.k0_part8_eq_skeleton, Cert.Kernel.Gen.k0_part8_skel, Cert.Kernel.Gen.k0_part9_eq_skeleton, Cert.Kernel.Gen.k0_part9_skel, Cert.Kernel.Gen.k0_part10_eq_skeleton, Cert.Kernel.Gen.k0_part10_skel, Cert.Kernel.Gen.k0_part11_eq_skeleton, Cert.Kernel.Gen.k0_part11_skel, Cert.Kernel.Gen.k0_part12_eq_skeleton, Cert.Kernel.Gen.k0_part12_skel, Cert.Kernel.Gen.k0_part13_eq_skeleton, Cert.Kernel.Gen.k0_part13_skel, Cert.Kernel.Gen.k0_part14_eq_skeleton, Cert.Kernel.Gen.k0_part14_skel, Cert.Kernel.Gen.k0_part15_eq_skeleton, Cert.Kernel.Gen.k0_part15_skel, Cert.Kernel.Gen.k0_part16_eq_skeleton, Cert.Kernel.Gen.k0_part16_skel, Cert.Kernel.Gen.k0_part17_eq_skeleton, Cert.Kernel.Gen.k0_part17_skel, Cert.Kernel.Gen.k0_part18_eq_skeleton, Cert.Kernel.Gen.k0_part18_skel, Cert.Kernel.Gen.k0_part19_eq_skeleton, Cert.Kernel.Gen.k0_part19_skel, Cert.Kernel.Gen.k0_part20_eq_skeleton, Cert.Kernel.Gen.k0_part20_skel, Cert.Kernel.Gen.k0_part21_eq_skeleton, Cert.Kernel.Gen.k0_part21_skel, Cert.Kernel.Gen.k0_part22_eq_skeleton, Cert.Kernel.Gen.k0_part22_skel, Cert.Kernel.Gen.k0_part23_eq_skeleton, Cert.Kernel.Gen.k0_part23_skel, Cert.Kernel.Gen.k0_part24_eq_skeleton, Cert.Kernel.Gen.k0_part24_skel, Cert.Kernel.Gen.k0_part25_eq_skeleton, Cert.Kernel.Gen.k0_part25_skel, Cert.Kernel.Gen.k0_part26_eq_skeleton, Cert.Kernel.Gen.k0_part26_skel, Cert.Kernel.Gen.k0_part27_eq_skeleton, Cert.Kernel.Gen.k0_part27_skel, Cert.Kernel.Gen.k0_part28_eq_skeleton, Cert.Kernel.Gen.k0_part28_skel, Cert.Kernel.Gen.k0_part29_eq_skeleton, Cert.Kernel.Gen.k0_part29_skel, Cert.Kernel.Gen.k0_part30_eq_skeleton, Cert.Kernel.Gen.k0_part30_skel, Cert.Kernel.Gen.k0_part31_eq_skeleton, Cert.Kernel.Gen.k0_part31_skel, Cert.Kernel.Gen.k0_part32_eq_skeleton, Cert.Kernel.Gen.k0_part32_skel, Cert.Kernel.Gen.k0_part33_eq_skeleton, Cert.Kernel.Gen.k0_part33_skel, Cert.Kernel.Gen.k0_part34_eq_skeleton, Cert.Kernel.Gen.k0_part34_skel, Cert.Kernel.Gen.k0_part35_eq_skeleton, Cert.Kernel.Gen.k0_part35_skel, Cert.Kernel.Gen.k0_part36_eq_skeleton, Cert.Kernel.Gen.k0_part36_skel, Cert.Kernel.Gen.k0_part37_eq_skeleton, Cert.Kernel.Gen.k0_part37_skel, Cert.Kernel.Gen.k0_part38_eq_skeleton, Cert.Kernel.Gen.k0_part38_skel, Cert.Kernel.Gen.k0_part39_eq_skeleton, Cert.Kernel.Gen.k0_part39_skel, Cert.Kernel.Gen.k0_part40_eq_skeleton, Cert.Kernel.Gen.k0_part40_skel, Cert.Kernel.Gen.k0_part41_eq_skeleton, Cert.Kernel.Gen.k0_part41_skel, Cert.Kernel.Gen.k0_part42_eq_skeleton, Cert.Kernel.Gen.k0_part42_skel, Cert.Kernel.Gen.k0_part43_eq_skeleton, Cert.Kernel.Gen.k0_part43_skel, Prog.bind_assoc, Prog.pure_eq_ret, Prog.bind_ret,
    body, steps, step, half, grant, go, take, give, Nat.blt, closes, cond_true, cond_false]
  rfl
end Cert.Proof.KernelIdeal
end
-- ==== Proof.KernelIdeal.Machine.lean ====
/-
  The machine program and the ideal one are the same program: one body, one table, one main. So the run of the one is the
  run of the other, over any interpretation of the floats.
-/
module

public import proofs.«01_k».proof.Proof.KernelIdeal.BodyEq
public import proofs.«01_k».proof.Proof.KernelIdeal.MachineEq
public import proofs.«01_k».proof.Proof.Gen.KernelIdeal.Launch
public import proofs.«01_k».proof.Proof.Gen.Kernel.Launch

@[expose] public section

noncomputable section

namespace Cert.Proof.KernelIdeal

open Idealize.ShloMosaic

variable {F : FTy → Type} [FloatOps F]

set_option maxRecDepth 100000 in
/-- The same bodies, label by label, -/
theorem machine_defs₀ : Cert.Kernel.defs₀ (F := F) = Cert.KernelIdeal.defs₀ (F := F) :=
  congrArg Defs.onTc (funext fun l => funext fun a => by
    match l, a with
    | ⟨0, _⟩, (t, s) => exact kernel_body_eq.trans cc0_body_eq.symm
    | ⟨n + 1, h⟩, _ => exact absurd h (Nat.not_lt.2 (Nat.le_add_left _ _)))

set_option maxRecDepth 100000 in
/-- so the same tables, -/
theorem machine_defs : Cert.Kernel.defs (F := F) = Cert.KernelIdeal.defs (F := F) := by
  unfold Cert.Kernel.defs Cert.KernelIdeal.defs
  exact congrArg (Pipeline.defs Cert.KernelIdeal.pcfgs) machine_defs₀

set_option maxRecDepth 100000 in
/-- and the same main. -/
theorem machine_main : Cert.Kernel.main (F := F) = Cert.KernelIdeal.main (F := F) := rfl

end Cert.Proof.KernelIdeal

end
-- ==== Proof.KernelIdeal.Protocol.lean ====
/-
  The protocol of the kernel's exchanges. Each device `c` has, for each of the two column chunks, fifteen READY cells (one
  per exchange: signalled once, by the exchange's partner, when the partner's landing buffer is free), one SEND cell
  (credited by the read-out of `c`'s own transfers) and one RECEIVE cell (credited by the landing of its partners'
  transfers). A ready cell has one round; a send or a receive cell has fifteen, round `k` being exchange `k`'s. What the
  units hand the cell's owner when they land:
    * ready, exchange `k`: the partner's landing buffer, and that the partner has reached round `k` of its receive cell;
    * send, round `k`: the working buffer back, unchanged;
    * receive, round `k`: the landing buffer, holding the partner's working buffer.
  Also here: what the working buffers hold before each exchange (`wAt`), what each device owes at launch, and the levels
  under which every wait sits below what its device then owes.
-/
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.KernelIdeal.Program

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-! ## The resource algebra: the pipeline's rounds and the exchanges' -/

abbrev UR : Type := URounds (GSem nD τ sig) Unit
abbrev UU : Type := UR × UR

local notation "𝕄" => MT nD τ sig ℕ (Elt F) ℕ UU ℕ

/-- The pipeline's copy inside the algebra, -/
def EP : Emb UR (MT nD τ sig ℕ (Elt F) ℕ UU ℕ) :=
  (Emb.inl : Emb UR UU).trans (uEmb (nD := nD) (sig := sig) (Ix := ℕ) (Val := Elt F) (Name := ℕ) (U := UU) (Lvl := ℕ)).toEmb
/-- and the exchanges'. -/
def ER : Emb UR (MT nD τ sig ℕ (Elt F) ℕ UU ℕ) :=
  (Emb.inr : Emb UR UU).trans (uEmb (nD := nD) (sig := sig) (Ix := ℕ) (Val := Elt F) (Name := ℕ) (U := UU) (Lvl := ℕ)).toEmb

instance EP_landsIn : (EP : Emb UR 𝕄).LandsIn (upEmb : UEmb _ 𝕄) := by unfold EP; infer_instance
instance ER_landsIn : (ER : Emb UR 𝕄).LandsIn (upEmb : UEmb _ 𝕄) := by unfold ER; infer_instance

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The cells -/

abbrev readyCell (c : Dev nD) (ch : Fin 2) (k : ℕ) : GSem nD τ sig := ((c : Thread nD τ), .reg (readyS ch k))
abbrev sendCell (c : Dev nD) (ch : Fin 2) : GSem nD τ sig := ((c : Thread nD τ), .dma (sendS ch))
abbrev recvCell (c : Dev nD) (ch : Fin 2) : GSem nD τ sig := ((c : Thread nD τ), .dma (recvS ch))

/-- The kernel's own semaphores: for each chunk its fifteen ready semaphores, its send and its receive semaphore. -/
abbrev OwnK : Type := Fin 2 × Fin 17
def osem (i : OwnK) : SemLoc sig :=
  if i.2.val < 15 then .reg (readyS i.1 i.2.val) else if i.2.val = 15 then .dma (sendS i.1) else .dma (recvS i.1)

abbrev iReady (ch : Fin 2) (k : ℕ) (hk : k < 15) : OwnK := (ch, ⟨k, Nat.lt_trans hk (by decide)⟩)
abbrev iSend (ch : Fin 2) : OwnK := (ch, 15)
abbrev iRecv (ch : Fin 2) : OwnK := (ch, 16)

theorem osem_ready (ch : Fin 2) (k : ℕ) (hk : k < 15) : osem (iReady ch k hk) = .reg (readyS ch k) := if_pos hk
theorem osem_send (ch : Fin 2) : osem (iSend ch) = .dma (sendS ch) := rfl
theorem osem_recv (ch : Fin 2) : osem (iRecv ch) = .dma (recvS ch) := rfl

/-- The kernel's cells: a device, and which of its own semaphores. -/
abbrev kcell (ck : Dev nD × OwnK) : GSem nD τ sig := ((ck.1 : Thread nD τ), osem ck.2)

/-! ### Reading a semaphore back -/

/-- A regular semaphore's chunk and exchange, -/
def chR (s : Sem sig) : Fin 2 := ⟨s.val / 15 % 2, Nat.mod_lt _ (by decide)⟩
def exR (s : Sem sig) : ℕ := s.val % 15
/-- a DMA semaphore's chunk, and whether it is a receive semaphore. -/
def chD (q : DmaSem sig) : Fin 2 := ⟨q.val % 2, Nat.mod_lt _ (by decide)⟩

theorem chR_readyS (ch : Fin 2) {k : ℕ} (hk : k < 15) : chR (readyS ch k) = ch :=
  Fin.ext (by have := ch.isLt; simp only [chR, readyS]; omega)
theorem exR_readyS (ch : Fin 2) {k : ℕ} (hk : k < 15) : exR (readyS ch k) = k := by
  have := ch.isLt; simp only [exR, readyS]; omega
theorem chD_sendS (ch : Fin 2) : chD (sendS ch) = ch := by revert ch; decide
theorem chD_recvS (ch : Fin 2) : chD (recvS ch) = ch := by revert ch; decide
theorem sendS_mem (ch : Fin 2) : 2 ≤ (sendS ch).val ∧ (sendS ch).val < 4 := by revert ch; decide
theorem recvS_mem (ch : Fin 2) : 2 ≤ (recvS ch).val ∧ ¬(recvS ch).val < 4 := by revert ch; decide

/-! ## What a transfer credits -/

abbrev N : ℕ := (rM 0).view.dmaCredit
theorem N_pos : 0 < N := View.dmaCredit_pos _ (by decide)
theorem credit_r (ch : Fin 2) : (rM ch).view.dmaCredit = N := by revert ch; decide
theorem credit_w (ch : Fin 2) : (wM ch).view.dmaCredit = N := by revert ch; decide

/-! ## Contents -/

/-- A chunk's values on one device. -/
abbrev V (F : FTy → Type) : Type := Vec F S2048x256 .bf16

/-- `x`'s block on device `c`, as the pipeline fetches it. -/
def xstg (c : Dev nD) : (cc0_stg0_0 : Ref sig .tc).ty.Contents (Elt F) :=
  (win0_0.blk (0 : Fin 1)).view.read (Elt F) ((s₀ m ρ).mem ((c : Thread nD τ).loc main_arg0))

/-- Its columns of one chunk. -/
def chunk (ch : Fin 2) (c : Dev nD) : V F :=
  shapeCast S2048x256 (shapeCast S2048x256 (xM.view.readAt (Elt F) (rX ch).toLoadRect (xstg m ρ c)) shapeCasts_S2048x256_S2048x256)
    shapeCasts_S2048x256_S2048x256

/-- The first `n` stages of level `t + 1` of the local sort, -/
def stagesV (v6 : IVec S2048x1 32) (t : ℕ) (z : V F) : ℕ → V F
  | 0 => z
  | n + 1 => local1 v6 (Scf.iv 1#32 1#32 t) (Scalar.shli 1#32 (Scalar.subi (Scalar.subi (Scf.iv 1#32 1#32 t) 1#32) (Scf.iv 0#32 1#32 n))) (stagesV v6 t z n)
/-- its first `n` levels, -/
def levelsV (v6 : IVec S2048x1 32) (z : V F) : ℕ → V F
  | 0 => z
  | n + 1 => stagesV v6 n (levelsV v6 z n) (n + 1)
/-- and the first `n` stages inside a device that end level `l`. -/
def mergeV (v6 : IVec S2048x1 32) (l : BitVec 32) (z : V F) : ℕ → V F
  | 0 => z
  | n + 1 => local1 v6 l (Scalar.shli 1#32 (Scalar.subi 10#32 (Scf.iv 0#32 1#32 n))) (mergeV v6 l z n)

/-- The working buffer on device `c` once exchange `k` has been made and, where that ends a level, the level's stages
    inside the device, from its contents and the partner's before. -/
def nextV (c : Dev nD) (k : ℕ) (z r : V F) : V F :=
  bif closes k then mergeV (posOf c) (lvl k) (exch (posOf c) (lvl k) (dist k) z r) 11 else exch (posOf c) (lvl k) (dist k) z r

/-- The working buffer on device `c` before exchange `k` (after the last one, for `k = 15`). -/
def wAt (ch : Fin 2) : ℕ → Dev nD → V F
  | 0, c => levelsV (posOf c) (chunk m ρ ch c) 11
  | k + 1, c => nextV c k (wAt ch k c) (wAt ch k (prt k c))

/-- The working and the landing buffer of device `c`, held whole. -/
abbrev wP (ch : Fin 2) (c : Dev nD) (X : V F) : sProp 𝕄 := owns (c : Thread nD τ) (wM ch) fullShare X
abbrev rP (ch : Fin 2) (c : Dev nD) (X : V F) : sProp 𝕄 := owns (c : Thread nD τ) (rM ch) fullShare X

/-! ## The schedule -/

/-- What exchange `k`'s partner's ready signal hands `c`, -/
def readyPay (c : Dev nD) (ch : Fin 2) (k : ℕ) : sProp 𝕄 :=
  iprop((∃ X, rP ch (prt k c) X) ∗ reached ER (recvCell (prt k c) ch) k)
/-- the read-out of its own transfer, -/
def sendPay (c : Dev nD) (ch : Fin 2) (k : ℕ) : sProp 𝕄 := wP ch c (wAt m ρ ch k c)
/-- the landing of its partner's. -/
def recvPay (c : Dev nD) (ch : Fin 2) (k : ℕ) : sProp 𝕄 := rP ch c (wAt m ρ ch k (prt k c))

/-- The rounds of a cell: one of a ready cell, fifteen of a send or a receive cell, none of any other. -/
def rounds (g : GSem nD τ sig) : ℕ :=
  if g.1.2 = .tc then match g.2 with | .reg _ => 1 | .dma q => if 2 ≤ q.val then 15 else 0 else 0

/-- The exchanges' schedule: every round of one duty; one unit on a ready cell, the chunk's credit on the others. -/
def exRd : Rounds.Schedule (GSem nD τ sig) Unit 𝕄 where
  duties g r := if r < rounds g then {()} else ∅
  unitless _ := False
  amount g _ _ := match g.2 with | .reg _ => 1 | .dma _ => N
  payload g r _ := match g.2 with
    | .reg s => readyPay g.1.1 (chR s) (exR s)
    | .dma q => if q.val < 4 then sendPay m ρ g.1.1 (chD q) r else recvPay m ρ g.1.1 (chD q) r
  amount_pos g _ _ _ := by
    rcases g.2 with s | q
    · exact Nat.one_pos
    · exact N_pos

instance exRd_payload_storable (g : GSem nD τ sig) (r : ℕ) (d : Unit) :
    BI.Storable (upEmb : UEmb _ 𝕄) ((exRd (F := F) m ρ).payload g r d) := by
  show BI.Storable upEmb (match g.2 with
    | .reg s => readyPay g.1.1 (chR s) (exR s)
    | .dma q => if q.val < 4 then sendPay m ρ g.1.1 (chD q) r else recvPay m ρ g.1.1 (chD q) r)
  unfold readyPay recvPay sendPay
  rcases g.2 with s | q
  · infer_instance
  · dsimp only; split <;> infer_instance

section Sched

variable (c : Dev nD) (ch : Fin 2)

theorem rounds_ready (k : ℕ) : rounds (readyCell c ch k) = 1 := rfl
theorem rounds_send : rounds (sendCell c ch) = 15 := by
  show (if 2 ≤ (sendS ch).val then 15 else 0) = 15; exact if_pos (sendS_mem ch).1
theorem rounds_recv : rounds (recvCell c ch) = 15 := by
  show (if 2 ≤ (recvS ch).val then 15 else 0) = 15; exact if_pos (recvS_mem ch).1

theorem duties_of_lt {g : GSem nD τ sig} {r : ℕ} (h : r < rounds g) : (exRd (F := F) m ρ).duties g r = {()} := if_pos h
theorem duties_of_ge {g : GSem nD τ sig} {R : ℕ} (h : rounds g ≤ R) : ∀ r, R ≤ r → (exRd (F := F) m ρ).duties g r = ∅ :=
  fun _ hr => if_neg (Nat.not_lt.mpr (Nat.le_trans h hr))

theorem mem_ready (k : ℕ) : () ∈ (exRd (F := F) m ρ).duties (readyCell c ch k) 0 := by
  rw [duties_of_lt m ρ (by rw [rounds_ready]; exact Nat.one_pos)]; exact Finset.mem_singleton_self _
theorem mem_send {k : ℕ} (hk : k < 15) : () ∈ (exRd (F := F) m ρ).duties (sendCell c ch) k := by
  rw [duties_of_lt m ρ (by rw [rounds_send]; exact hk)]; exact Finset.mem_singleton_self _
theorem mem_recv {k : ℕ} (hk : k < 15) : () ∈ (exRd (F := F) m ρ).duties (recvCell c ch) k := by
  rw [duties_of_lt m ρ (by rw [rounds_recv]; exact hk)]; exact Finset.mem_singleton_self _

theorem amount_ready (k r : ℕ) (u : Unit) : (exRd (F := F) m ρ).amount (readyCell c ch k) r u = 1 := rfl
theorem amount_send (r : ℕ) (u : Unit) : (exRd (F := F) m ρ).amount (sendCell c ch) r u = N := rfl
theorem amount_recv (r : ℕ) (u : Unit) : (exRd (F := F) m ρ).amount (recvCell c ch) r u = N := rfl

theorem expect_ready (k : ℕ) : (exRd (F := F) m ρ).expect (readyCell c ch k) 0 = 1 := by
  unfold Schedule.expect Schedule.amountOf
  rw [duties_of_lt m ρ (by rw [rounds_ready]; exact Nat.one_pos), Finset.sum_singleton, amount_ready]
theorem expect_send {k : ℕ} (hk : k < 15) : (exRd (F := F) m ρ).expect (sendCell c ch) k = N := by
  unfold Schedule.expect Schedule.amountOf
  rw [duties_of_lt m ρ (by rw [rounds_send]; exact hk), Finset.sum_singleton, amount_send]
theorem expect_recv {k : ℕ} (hk : k < 15) : (exRd (F := F) m ρ).expect (recvCell c ch) k = N := by
  unfold Schedule.expect Schedule.amountOf
  rw [duties_of_lt m ρ (by rw [rounds_recv]; exact hk), Finset.sum_singleton, amount_recv]

theorem payload_ready {k : ℕ} (hk : k < 15) (r : ℕ) (u : Unit) : (exRd (F := F) m ρ).payload (readyCell c ch k) r u = readyPay c ch k := by
  show readyPay c (chR (readyS ch k)) (exR (readyS ch k)) = _; rw [chR_readyS ch hk, exR_readyS ch hk]
theorem payload_send (r : ℕ) (u : Unit) : (exRd (F := F) m ρ).payload (sendCell c ch) r u = sendPay m ρ c ch r := by
  show (if (sendS ch).val < 4 then sendPay m ρ c (chD (sendS ch)) r else recvPay m ρ c (chD (sendS ch)) r) = _
  rw [if_pos (sendS_mem ch).2, chD_sendS]
theorem payload_recv (r : ℕ) (u : Unit) : (exRd (F := F) m ρ).payload (recvCell c ch) r u = recvPay m ρ c ch r := by
  show (if (recvS ch).val < 4 then sendPay m ρ c (chD (recvS ch)) r else recvPay m ρ c (chD (recvS ch)) r) = _
  rw [if_neg (recvS_mem ch).2, chD_recvS]

/-- The rest of a round of one duty, none taken, is its payload. -/
theorem rest_ready {k : ℕ} (hk : k < 15) :
    bigSep ((exRd (F := F) m ρ).duties (readyCell c ch k) 0 \ ∅) (fun u => (exRd (F := F) m ρ).payload (readyCell c ch k) 0 u) = readyPay c ch k := by
  rw [Finset.sdiff_empty, duties_of_lt m ρ (by rw [rounds_ready]; exact Nat.one_pos), bigSep_singleton, payload_ready m ρ c ch hk]
theorem rest_send {k : ℕ} (hk : k < 15) :
    bigSep ((exRd (F := F) m ρ).duties (sendCell c ch) k \ ∅) (fun u => (exRd (F := F) m ρ).payload (sendCell c ch) k u) = sendPay m ρ c ch k := by
  rw [Finset.sdiff_empty, duties_of_lt m ρ (by rw [rounds_send]; exact hk), bigSep_singleton, payload_send]
theorem rest_recv {k : ℕ} (hk : k < 15) :
    bigSep ((exRd (F := F) m ρ).duties (recvCell c ch) k \ ∅) (fun u => (exRd (F := F) m ρ).payload (recvCell c ch) k u) = recvPay m ρ c ch k := by
  rw [Finset.sdiff_empty, duties_of_lt m ρ (by rw [rounds_recv]; exact hk), bigSep_singleton, payload_recv]

end Sched

/-! ## What a device owes, and the levels -/

/-- What exchange `i` of a chunk has device `c` pay its partner: the ready signal's unit, the transfer's credit. -/
def owed1 (ch : Fin 2) (c : Dev nD) (i : ℕ) : CellTallies nD τ sig ℕ :=
  tallyAt (readyCell (prt i c) ch i) 0 1 + tallyAt (recvCell (prt i c) ch) i N
/-- What all exchanges from `j` on have it pay. -/
def owedFrom (ch : Fin 2) (c : Dev nD) (j : ℕ) : CellTallies nD τ sig ℕ := ∑ i ∈ Finset.Ico j 15, owed1 ch c i

theorem owedFrom_end (ch : Fin 2) (c : Dev nD) : owedFrom ch c 15 = 0 := by unfold owedFrom; rw [Finset.Ico_self, Finset.sum_empty]
theorem owedFrom_step (ch : Fin 2) (c : Dev nD) {j : ℕ} (hj : j < 15) : owedFrom ch c j = owed1 ch c j + owedFrom ch c (j + 1) := by
  unfold owedFrom; exact Finset.sum_eq_sum_Ico_succ_bot hj _

/-- What device `c` owes at launch. -/
def O₀ (c : Dev nD) : CellTallies nD τ sig ℕ := owedFrom 0 c 0 + owedFrom 1 c 0

/-- Every TensorCore cell has the indices below sixteen levelled: -/
def L (g : GSem nD τ sig) : Finset ℕ := if g.1.2 = .tc then Finset.range 16 else ∅
/-- staging and send cells at 0; a ready cell of exchange `k` at `4k + 2ch + 1`, a receive cell's round `k` at
    `4k + 2ch + 4`. -/
def lv (g : GSem nD τ sig) (i : ℕ) : ℕ := match g.2 with
  | .reg s => 4 * exR s + 2 * (chR s).val + 1
  | .dma q => if q.val < 4 then 0 else 4 * i + 2 * (chD q).val + 4

theorem L_of_ne (g : GSem nD τ sig) (h : g.1.2 ≠ .tc) : L g = ∅ := if_neg h
theorem L_tc (c : Dev nD) (sm : SemLoc sig) : L ((c : Thread nD τ), sm) = Finset.range 16 := if_pos rfl

theorem lv_ready (c : Dev nD) (ch : Fin 2) {k : ℕ} (hk : k < 15) (i : ℕ) : lv (readyCell c ch k) i = 4 * k + 2 * ch.val + 1 := by
  show 4 * exR (readyS ch k) + 2 * (chR (readyS ch k)).val + 1 = _; rw [chR_readyS ch hk, exR_readyS ch hk]
theorem lv_recv (c : Dev nD) (ch : Fin 2) (i : ℕ) : lv (recvCell c ch) i = 4 * i + 2 * ch.val + 4 := by
  show (if (recvS ch).val < 4 then 0 else 4 * i + 2 * (chD (recvS ch)).val + 4) = _; rw [if_neg (recvS_mem ch).2, chD_recvS]
theorem lv_low (c : Dev nD) (q : DmaSem sig) (hq : q.val < 4) (i : ℕ) : lv ((c : Thread nD τ), .dma q) i = 0 := if_pos hq

/-- Everything owed is levelled, above `b`. -/
def Above (b : ℕ) (O : CellTallies nD τ sig ℕ) : Prop := ∀ g i, 0 < O g i → i ∈ L g ∧ b < lv g i

theorem Above.zero (b : ℕ) : Above b 0 := fun g i h => absurd h (Nat.lt_irrefl 0)
theorem Above.add {b : ℕ} {O O' : CellTallies nD τ sig ℕ} (h : Above b O) (h' : Above b O') : Above b (O + O') := fun g i hg => by
  rw [Pi.add_apply, Finsupp.add_apply] at hg
  rcases Nat.eq_zero_or_pos (O g i) with h0 | h0
  · exact h' g i (by omega)
  · exact h g i h0
theorem Above.mono {b b' : ℕ} {O : CellTallies nD τ sig ℕ} (h : Above b O) (hb : b' ≤ b) : Above b' O :=
  fun g i hg => ⟨(h g i hg).1, Nat.lt_of_le_of_lt hb (h g i hg).2⟩
theorem Above.at {b : ℕ} {c : Dev nD} {sm : SemLoc sig} {i n : ℕ} (hi : i < 16) (hb : b < lv ((c : Thread nD τ), sm) i) :
    Above b (tallyAt ((c : Thread nD τ), sm) i n) := fun g j hg => by
  rw [tallyAt_apply] at hg
  by_cases h : g = ((c : Thread nD τ), sm) ∧ j = i
  · obtain ⟨rfl, rfl⟩ := h; exact ⟨by rw [L_tc]; exact Finset.mem_range.mpr hi, hb⟩
  · rw [if_neg h] at hg; exact absurd hg (Nat.lt_irrefl 0)
theorem Above.owed1 {b : ℕ} (ch : Fin 2) (c : Dev nD) {i : ℕ} (hi : i < 15) (hb : b < 4 * i + 2 * ch.val + 1) : Above b (owed1 ch c i) :=
  (Above.at (by decide) (by rw [lv_ready _ _ hi]; exact hb)).add (Above.at (by omega) (by rw [lv_recv]; omega))
theorem Above.from {b : ℕ} (ch : Fin 2) (c : Dev nD) (j : ℕ) (hb : b < 4 * j + 2 * ch.val + 1) : Above b (owedFrom ch c j) := by
  unfold owedFrom
  refine Finset.sum_induction _ (Above b) (fun _ _ => Above.add) (Above.zero b) fun i hi => ?_
  rw [Finset.mem_Ico] at hi
  exact Above.owed1 ch c hi.2 (by omega)

/-- A wait at a level all that is owed is above. -/
theorem mayWait (c : Dev nD) (sm : SemLoc sig) (i : ℕ) (hi : i < 16) {b : ℕ} {O : CellTallies nD τ sig ℕ} (hb : lv ((c : Thread nD τ), sm) i ≤ b)
    (hO : Above b O) : (levAts L lv : sProp 𝕄) ⊢ MayWait (c : Thread nD τ) sm i O :=
  MayOwe.of_cut (L := L) (lev := lv) b (fun p hp => by rw [Finset.mem_singleton.mp hp, L_tc]; exact Finset.mem_range.mpr hi)
    (fun g u hg => (hO g u hg).1) (fun p hp => by rw [Finset.mem_singleton.mp hp]; exact hb) (fun g u hg => (hO g u hg).2)

/-! ## The records every device may consult -/

/-- All cells' invariants, under one map of names, and that round 0 of every cell is reached. -/
def records (K : Dev nD × OwnK → ℕ) : sProp 𝕄 :=
  iprop((bigSep Finset.univ fun ck : Dev nD × OwnK => cellInv ER (exRd m ρ) (K ck) (kcell ck))
    ∗ bigSep Finset.univ fun ck : Dev nD × OwnK => reached ER (kcell ck) 0)

instance records_persistent (K : Dev nD × OwnK → ℕ) : BI.Persistent (records m ρ K) := by unfold records; infer_instance

section Records

variable (K : Dev nD × OwnK → ℕ) (c : Dev nD)

theorem invs_elim (ck : Dev nD × OwnK) : (bigSep Finset.univ fun ck : Dev nD × OwnK => (cellInv ER (exRd m ρ) (K ck) (kcell ck) : sProp 𝕄))
    ⊢ cellInv ER (exRd m ρ) (K ck) (kcell ck) := bigSep_elim (Finset.mem_univ ck)
omit [FloatOps F] in
theorem reached_elim (ck : Dev nD × OwnK) : (bigSep Finset.univ fun ck : Dev nD × OwnK => (reached ER (kcell ck) 0 : sProp 𝕄))
    ⊢ reached ER (kcell ck) 0 := bigSep_elim (Finset.mem_univ ck)

theorem inv_at (i : OwnK) (sm : SemLoc sig) (h : osem i = sm) : records m ρ K ⊢ cellInv ER (exRd m ρ) (K (c, i)) ((c : Thread nD τ), sm) := by
  subst h; unfold records; iintro ⟨H, -⟩; iapply (invs_elim m ρ K (c, i)); iexact H
theorem reached_at (i : OwnK) (sm : SemLoc sig) (h : osem i = sm) : records m ρ K ⊢ reached ER ((c : Thread nD τ), sm) 0 := by
  subst h; unfold records; iintro ⟨-, H⟩; iapply (reached_elim (c, i)); iexact H

end Records

/-- The kernel's variants: none. -/
abbrev 𝒱₀ : Variants := Variants.none

end Cert.Proof.KernelIdeal

end
-- ==== Proof.KernelIdeal.Pieces.lean ====
/-
  What each group of operations does to the exchanges' resources: signalling, sending, the two waits, and the loads and
  stores of the buffers, one lemma a group, over the chunk and the exchange.
-/
module

public import proofs.«01_k».proof.Proof.KernelIdeal.Protocol

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig ℕ (Elt F) ℕ UU ℕ

variable (m : (ℓ : Loc nD τ sig) → Buf (Elt F) ℓ) (ρ : Dev nD → PrngReg) (K : Dev nD × OwnK → ℕ)

/-- A program of device `c`'s core. -/
abbrev wpK (c : Dev nD) {α : Type} (p : P (F := F) α) (Q : α → sProp 𝕄) : sProp 𝕄 :=
  wp frame (wpE (defs₀ (F := F)) 𝒱₀ (c : Thread nD τ) none) Set.univ p Q

/-- What device `c` owes, whatever it has waited on. -/
def Own (c : Dev nD) (O : CellTallies nD τ sig ℕ) : sProp 𝕄 := iprop(∃ W, owes (c : Thread nD τ) O W)

/-! ## The buffers, whole -/

theorem hz : (![0, 0] : Fin 2 → Nat) = fun _ => 0 := funext fun a => by fin_cases a <;> rfl

theorem readAt_w (ch : Fin 2) (f : (wM ch).view.ty.Contents (Elt F)) :
    (wM ch).view.readAt (Elt F) rW.toLoadRect f = (wM ch).view.read (Elt F) f := by
  match ch with
  | 0 => exact Memref.readAt_unit_zero (Elt F) cc0_scratch0 hz _ f
  | 1 => exact Memref.readAt_unit_zero (Elt F) cc0_scratch1 hz _ f
theorem readAt_r (ch : Fin 2) (f : (rM ch).view.ty.Contents (Elt F)) :
    (rM ch).view.readAt (Elt F) rW.toLoadRect f = (rM ch).view.read (Elt F) f := by
  match ch with
  | 0 => exact Memref.readAt_unit_zero (Elt F) cc0_scratch2 hz _ f
  | 1 => exact Memref.readAt_unit_zero (Elt F) cc0_scratch3 hz _ f
theorem write_w (ch : Fin 2) (f : (wM ch).view.ty.Contents (Elt F)) (w : V F) :
    (wM ch).view.read (Elt F) (((wM ch).access rW : View sig .tc _ _ _).write (Elt F) f w Finset.univ) = w := by
  match ch with
  | 0 => exact congrArg ((wM 0).view.read (Elt F)) (Memref.write_access_unit_zero_univ (Elt F) cc0_scratch0 hz _ f w)
  | 1 => exact congrArg ((wM 1).view.read (Elt F)) (Memref.write_access_unit_zero_univ (Elt F) cc0_scratch1 hz _ f w)

/-- A buffer at contents read as `X` is owned at `X`. -/
theorem owns_of (c : Thread nD τ) {sp : Space} {sh : Shape} {e : EltTy} (M : Memref sig c.2.kind sp sh e) {f : M.view.ty.Contents (Elt F)} {X : sh.Idx → Elt F e}
    (h : M.view.read (Elt F) f = X) : (M.view.loc c ↦[M.view.set]{fullShare} f : sProp 𝕄) ⊢ owns c M fullShare X := by
  subst h; exact owns_intro c M fullShare f

theorem wp_load_w (c : Dev nD) (ch : Fin 2) (z : V F) (Q : V F → sProp 𝕄) :
    wP ch c z ⊢ iprop((wP ch c z -∗ Q z) -∗ wpK c (loadM (wM ch)) Q) := by
  unfold wP owns loadM
  simp only [Prog.lift]
  iintro ⟨%f, %hf, H⟩ HK
  iapply (wp_load 𝒱₀ (c : Thread nD τ) none Set.univ (m := wM ch) (View.setOn_subset_set _ _)) $$ H; iintro H
  rw [readAt_w, hf, wp_ret]; imodintro
  iapply HK; iexists f
  isplitr; · ipureintro; exact hf
  iexact H
theorem wp_load_r (c : Dev nD) (ch : Fin 2) (z : V F) (Q : V F → sProp 𝕄) :
    rP ch c z ⊢ iprop((rP ch c z -∗ Q z) -∗ wpK c (loadM (rM ch)) Q) := by
  unfold rP owns loadM
  simp only [Prog.lift]
  iintro ⟨%f, %hf, H⟩ HK
  iapply (wp_load 𝒱₀ (c : Thread nD τ) none Set.univ (m := rM ch) (View.setOn_subset_set _ _)) $$ H; iintro H
  rw [readAt_r, hf, wp_ret]; imodintro
  iapply HK; iexists f
  isplitr; · ipureintro; exact hf
  iexact H
theorem wp_store_w (c : Dev nD) (ch : Fin 2) (z w : V F) (Q : PUnit → sProp 𝕄) :
    wP ch c z ⊢ iprop((wP ch c w -∗ Q ⟨⟩) -∗ wpK c (storeM (wM ch) (wM_whole ch) w) Q) := by
  unfold wP owns storeM
  simp only [Prog.lift]
  iintro ⟨%f, %hf, H⟩ HK
  iapply (wp_store 𝒱₀ (c : Thread nD τ) none Set.univ (m := wM ch) (r := rW) (Mk := Finset.univ) ((View.setOn_subset_set _ _).trans (View.set_slice_subset _ _))) $$ H; iintro H
  rw [wp_ret]; imodintro
  iapply HK; iexists _
  isplitr; · ipureintro; exact write_w ch f w
  iexact H

/-- A stage on the working buffer. -/
theorem wp_upd (c : Dev nD) (ch : Fin 2) (f : V F → V F) (z : V F) (Q : PUnit → sProp 𝕄) :
    wP ch c z ⊢ iprop((wP ch c (f z) -∗ Q ⟨⟩) -∗ wpK c (upd ch f) Q) := by
  unfold wpK upd
  rw [wp_bind]
  iintro H HK
  iapply (wp_load_w c ch z) $$ H; iintro H
  rw [wp_bind]
  iapply (wp_load_w c ch z) $$ H; iintro H
  iapply (wp_store_w c ch z (f z)) $$ H; iexact HK

/-! ## The loops of stages -/

theorem trips1 : k0_t1_loop.trips = 11 := by decide
theorem trips2 (t : Fin k0_t1_loop.trips) : (k0_t2_loop t).trips = t.val + 1 := by revert t; decide
theorem trips3 (t : Fin k0_t1_loop.trips) : (k0_t3_loop t).trips = 0 := by revert t; decide
theorem trips7 : k0_t7_loop.trips = 11 := by decide

theorem wp_merge (c : Dev nD) (ch : Fin 2) (v6 : IVec S2048x1 32) (l : BitVec 32) (z : V F) (Q : Unit → sProp 𝕄) :
    wP ch c z ⊢ iprop((wP ch c (mergeV v6 l z 11) -∗ Q ⟨⟩) -∗ wpK c (mergeP ch v6 l) Q) := by
  unfold wpK mergeP
  iintro H HK
  iapply (Scf.wp_for frame (wpE (defs₀ (F := F)) 𝒱₀ (c : Thread nD τ) none) Set.univ _ _ _ _ _ _
    (fun n _ => wP ch c (mergeV v6 l z n)) (fun t _ => ?_))
  · rw [wp_bind]
    iintro H
    iapply (wp_upd c ch _ (mergeV v6 l z t.val)) $$ H; iintro H
    rw [Prog.pure_eq_ret, wp_ret]; imodintro
    iexact H
  · isplitl [H]; · iexact H
    iintro %a H
    iapply HK
    iexact H

theorem wp_level (c : Dev nD) (ch : Fin 2) (v6 : IVec S2048x1 32) (t : Fin k0_t1_loop.trips) (u : Unit) (z : V F) (Q : Unit → sProp 𝕄) :
    wP ch c z ⊢ iprop((wP ch c (stagesV v6 t.val z (t.val + 1)) -∗ Q ⟨⟩) -∗ wpK c (sortLevel ch v6 t u) Q) := by
  unfold wpK sortLevel
  rw [wp_bind]
  iintro H HK
  iapply (Scf.wp_for frame (wpE (defs₀ (F := F)) 𝒱₀ (c : Thread nD τ) none) Set.univ _ _ _ _ _ _
    (fun n _ => wP ch c (stagesV v6 t.val z n)) (fun s _ => ?_))
  · rw [wp_bind]
    iintro H
    iapply (wp_upd c ch _ (stagesV v6 t.val z s.val)) $$ H; iintro H
    rw [Prog.pure_eq_ret, wp_ret]; imodintro
    iexact H
  isplitl [H]; · iexact H
  iintro %a H
  rw [wp_bind]
  iapply (Scf.wp_for frame (wpE (defs₀ (F := F)) 𝒱₀ (c : Thread nD τ) none) Set.univ _ _ _ _ _ _
    (fun _ _ => wP ch c (stagesV v6 t.val z (k0_t2_loop t).trips))
    (fun s _ => absurd s.isLt (Nat.not_lt.mpr ((trips3 t).le.trans (Nat.zero_le _)))))
  isplitl [H]; · iexact H
  iintro %b H
  rw [Prog.pure_eq_ret, wp_ret]; imodintro
  iapply HK
  rw [← trips2 t]
  iexact H

theorem wp_sort (c : Dev nD) (ch : Fin 2) (v6 : IVec S2048x1 32) (z : V F) (Q : Unit → sProp 𝕄) :
    wP ch c z ⊢ iprop((wP ch c (levelsV v6 z 11) -∗ Q ⟨⟩) -∗ wpK c (sortP ch v6) Q) := by
  unfold wpK sortP
  iintro H HK
  iapply (Scf.wp_for frame (wpE (defs₀ (F := F)) 𝒱₀ (c : Thread nD τ) none) Set.univ _ _ _ _ _ _
    (fun n _ => wP ch c (levelsV v6 z n)) (fun t u => ?_))
  · iintro H
    iapply (wp_level c ch v6 t u (levelsV v6 z t.val)) $$ H; iintro H
    iexact H
  · isplitl [H]; · iexact H
    iintro %a H
    iapply HK
    iexact H

/-! ## The exchanges -/

/-- Signalling that the landing buffer is free pays the partner's ready cell with it. -/
theorem wp_grant (c : Dev nD) (ch : Fin 2) {k : ℕ} (hk : k < 15) (O : CellTallies nD τ sig ℕ) (Q : PUnit → sProp 𝕄) :
    iprop(records m ρ K ∗ Own c (O + tallyAt (readyCell (prt k c) ch k) 0 1) ∗ dutyTok ER (readyCell (prt k c) ch k) 0 () ∗ (∃ X, rP ch c X)
        ∗ reached ER (recvCell c ch) k)
      ⊢ iprop((Own c O -∗ Q ⟨⟩) -∗ wpK c (grant c ch k) Q) := by
  unfold wpK grant Own
  simp only [semSignalWord, Prog.lift]
  iintro ⟨#HR, ⟨%W, HO⟩, Ht, Hr, #Hv⟩ HK
  iapply (Rounds.wp_signal 𝒱₀ ER (exRd m ρ) (c : Thread nD τ) none (dst := (prt k c : Thread nD τ)) (κ := K (prt k c, iReady ch k hk))
      (mem_ready m ρ (prt k c) ch k) ((amount_ready m ρ (prt k c) ch k 0 ()).trans (by decide)) 0 O rfl) $$ [HO Ht Hr]
  · isplitr; · iapply (inv_at m ρ K (prt k c) (iReady ch k hk) _ (osem_ready ch k hk)); iexact HR
    isplitl [HO]; · iexact HO
    isplitl [Ht]; · iexact Ht
    isplitl [Hr]
    · rw [payload_ready m ρ _ _ hk]; unfold readyPay; rw [prt_prt]
      isplitl [Hr]; · iexact Hr
      iexact Hv
    · iapply (reached_at m ρ K (prt k c) (iReady ch k hk) _ (osem_ready ch k hk)); iexact HR
  iintro HO
  rw [wp_ret]; imodintro
  iapply HK; iexists W; iexact HO

/-- Waiting for the partner's signal and sending it the working buffer. -/
theorem wp_go (c : Dev nD) (ch : Fin 2) {k : ℕ} (hk : k < 15) (O : CellTallies nD τ sig ℕ) (hO : Above (4 * k + 2 * ch.val + 1) O) (Q : PUnit → sProp 𝕄) :
    iprop(records m ρ K ∗ levAts L lv ∗ Own c (O + tallyAt (recvCell (prt k c) ch) k N) ∗ cred (tallyAt (readyCell c ch k) 0 1) ∗ atPos ER (readyCell c ch k) 0 ∅ 0
        ∗ wP ch c (wAt m ρ ch k c) ∗ dutyTok ER (sendCell c ch) k () ∗ reached ER (sendCell c ch) k ∗ dutyTok ER (recvCell (prt k c) ch) k ())
      ⊢ iprop(((Own c O ∗ cred (tallyAt (sendCell c ch) 0 N) ∗ atPos ER (readyCell c ch k) 1 ∅ 0) -∗ Q ⟨⟩) -∗ wpK c (go c ch k) Q) := by
  unfold wpK go Own
  simp only [semWaitWord, Prog.lift, Prog.bind_op, Prog.bind_ret]
  iintro ⟨#HR, #Hlev, ⟨%W, HO⟩, Hc, Hat, Hw, HtS, #HrS, HtV⟩ HK
  have hA : Above (4 * k + 2 * ch.val + 1) (O + tallyAt (recvCell (prt k c) ch) k N) :=
    hO.add (Above.at (by omega) (by rw [lv_recv]; omega))
  iapply (Rounds.wp_wait_rest_token 𝒱₀ ER (exRd m ρ) (c : Thread nD τ) none (κ := K (c, iReady ch k hk))
      (wpE_semWait_eq 𝒱₀ (c : Thread nD τ) none Set.univ) (Set.mem_univ _) 0 (O := O + tallyAt (recvCell (prt k c) ch) k N) (W := W) (R := 0) (m := 0) (T := ∅)
      (by rw [expect_ready]; decide)) $$ [Hc HO Hat]
  · isplitr; · iapply (inv_at m ρ K c (iReady ch k hk) _ (osem_ready ch k hk)); iexact HR
    isplitl [Hc]; · iexact Hc
    isplitl [HO]; · iexact HO
    isplitr; · iapply (mayWait c (.reg (readyS ch k)) 0 (by decide) (Nat.le_of_eq (lv_ready c ch hk 0)) hA); iexact Hlev
    iexact Hat
  iintro ⟨HO, Hat, -, Hpay⟩
  ihave Hp := (Entails.of_eq (rest_ready m ρ c ch hk)) $$ Hpay
  unfold readyPay
  icases Hp with ⟨⟨%X, Hr⟩, #HrV⟩
  unfold wP rP owns
  icases Hw with ⟨%fs, %hfs, Hw⟩
  icases Hr with ⟨%fd, %hfd, Hr⟩
  iapply (Rounds.wp_send_pointsTo 𝒱₀ ER (exRd m ρ) (c : Thread nD τ) none (κ₁ := K (c, iSend ch)) (κ₂ := K (prt k c, iRecv ch))
    (r₁ := k) (r₂ := k) (d₁ := ()) (d₂ := ()) (fd := fd) (fs := fs)
    (mem_send m ρ c ch hk) (mem_recv m ρ (prt k c) ch hk)
    k 0 N (credit_r ch) (amount_send m ρ c ch k ()) (amount_recv m ρ (prt k c) ch k ()) O rfl
    (by rw [payload_send]; unfold sendPay; exact owns_of _ _ hfs)
    (by rw [payload_recv]; unfold recvPay; rw [prt_prt]; exact owns_of _ _ ((View.read_write_univ _ _).trans hfs))) $$ [Hw Hr HO HtS HtV]
  · isplitr; · iapply (inv_at m ρ K c (iSend ch) _ (osem_send ch)); iexact HR
    isplitr; · iapply (inv_at m ρ K (prt k c) (iRecv ch) _ (osem_recv ch)); iexact HR
    isplitl [Hw]; · iexact Hw
    isplitl [Hr]; · iexact Hr
    isplitl [HO]; · iexact HO
    isplitl [HtS]; · iexact HtS
    isplitr; · iexact HrS
    isplitl [HtV]; · iexact HtV
    iexact HrV
  iintro ⟨Hc, HO⟩
  rw [wp_ret]; imodintro
  iapply HK
  isplitl [HO]; · iexists _; iexact HO
  isplitl [Hc]; · iexact Hc
  iexact Hat

/-- The two waits that end an exchange, and its compare-exchange. -/
theorem wp_half (c : Dev nD) (ch : Fin 2) {k : ℕ} (hk : k < 15) (O : CellTallies nD τ sig ℕ) (hO : Above (4 * k + 2 * ch.val + 4) O) (Q : PUnit → sProp 𝕄) :
    iprop(records m ρ K ∗ levAts L lv ∗ Own c O ∗ cred (tallyAt (sendCell c ch) 0 N) ∗ atPos ER (sendCell c ch) k ∅ 0 ∗ cred (tallyAt (recvCell c ch) k N)
        ∗ atPos ER (recvCell c ch) k ∅ 0)
      ⊢ iprop(((Own c O ∗ wP ch c (exch (posOf c) (lvl k) (dist k) (wAt m ρ ch k c) (wAt m ρ ch k (prt k c))) ∗ (∃ X, rP ch c X)
            ∗ atPos ER (sendCell c ch) (k + 1) ∅ 0 ∗ reached ER (sendCell c ch) (k + 1)
            ∗ atPos ER (recvCell c ch) (k + 1) ∅ 0 ∗ reached ER (recvCell c ch) (k + 1)) -∗ Q ⟨⟩) -∗ wpK c (half c ch k) Q) := by
  unfold wpK half Own
  simp only [Prog.lift, Prog.bind_op, Prog.bind_ret]
  iintro ⟨#HR, #Hlev, ⟨%W, HO⟩, HcS, HaS, HcV, HaV⟩ HK
  iapply (Rounds.wp_wait_rest_token 𝒱₀ ER (exRd m ρ) (c : Thread nD τ) none (κ := K (c, iSend ch))
      (wpE_waitDma2_eq 𝒱₀ (c : Thread nD τ) none Set.univ) (Set.mem_univ _) 0 (O := O) (W := W) (R := k) (m := 0) (T := ∅)
      (k' := (wM ch).view.dmaCredit) (by rw [Nat.zero_add, expect_send m ρ c ch hk, credit_w])) $$ [HcS HO HaS]
  · isplitr; · iapply (inv_at m ρ K c (iSend ch) _ (osem_send ch)); iexact HR
    isplitl [HcS]; · rw [credit_w]; iexact HcS
    isplitl [HO]; · iexact HO
    isplitr; · iapply (mayWait c (.dma (sendS ch)) 0 (by decide) (Nat.le_trans (Nat.le_of_eq (lv_low c _ (sendS_mem ch).2 0)) (Nat.zero_le _)) hO); iexact Hlev
    iexact HaS
  iintro ⟨HO, HaS, #HrS, Hpay⟩
  ihave Hw := (Entails.of_eq (rest_send m ρ c ch hk)) $$ Hpay
  iapply (Rounds.wp_wait_rest_token 𝒱₀ ER (exRd m ρ) (c : Thread nD τ) none (κ := K (c, iRecv ch))
      (wpE_waitDma2_eq 𝒱₀ (c : Thread nD τ) none Set.univ) (Set.mem_univ _) k (O := O) (W := insert (SemLoc.dma (sendS ch), 0) W) (R := k) (m := 0) (T := ∅)
      (k' := (rM ch).view.dmaCredit) (by rw [Nat.zero_add, expect_recv m ρ c ch hk, credit_r])) $$ [HcV HO HaV]
  · isplitr; · iapply (inv_at m ρ K c (iRecv ch) _ (osem_recv ch)); iexact HR
    isplitl [HcV]; · rw [credit_r]; iexact HcV
    isplitl [HO]; · iexact HO
    isplitr; · iapply (mayWait c (.dma (recvS ch)) k (by omega) (Nat.le_of_eq (lv_recv c ch k)) hO); iexact Hlev
    iexact HaV
  iintro ⟨HO, HaV, #HrV, Hpay⟩
  ihave Hr := (Entails.of_eq (rest_recv m ρ c ch hk)) $$ Hpay
  unfold sendPay recvPay
  rw [wp_bind]
  iapply (wp_load_w c ch (wAt m ρ ch k c)) $$ Hw; iintro Hw
  rw [wp_bind]
  iapply (wp_load_r c ch (wAt m ρ ch k (prt k c))) $$ Hr; iintro Hr
  rw [wp_bind]
  iapply (wp_load_w c ch (wAt m ρ ch k c)) $$ Hw; iintro Hw
  iapply (wp_store_w c ch (wAt m ρ ch k c)) $$ Hw; iintro Hw
  iapply HK
  isplitl [HO]; · iexists _; iexact HO
  isplitl [Hw]; · iexact Hw
  isplitl [Hr]; · iexists _; iexact Hr
  isplitl [HaS]; · iexact HaS
  isplitr; · iexact HrS
  isplitl [HaV]; · iexact HaV
  iexact HrV

end Cert.Proof.KernelIdeal

end
-- ==== Proof.KernelIdeal.Steps.lean ====
/-
  The exchanges in sequence. Between two exchanges a chunk of a device is in flight (`Chan`): its transfer of exchange `k`
  sent, the credits of both waits to come in hand, and for each later exchange what it takes (`fut`). One step ends exchange
  `k` and starts the next; fifteen steps of both chunks lead from the two first transfers to both working buffers' final
  contents (`End`).
-/
module

public import proofs.«01_k».proof.Proof.KernelIdeal.Pieces

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig ℕ (Elt F) ℕ UU ℕ

variable (m : (ℓ : Loc nD τ sig) → Buf (Elt F) ℓ) (ρ : Dev nD → PrngReg) (K : Dev nD × OwnK → ℕ)

/-! ## The states -/

/-- What exchange `j` of a chunk takes on device `c`: the credits its ready signal and its landing bring, the position on
    its ready cell, the tokens of the three duties it pays. -/
def fut (ch : Fin 2) (c : Dev nD) (j : ℕ) : sProp 𝕄 :=
  iprop((cred (tallyAt (readyCell c ch j) 0 1) ∗ cred (tallyAt (recvCell c ch) j N)) ∗ atPos ER (readyCell c ch j) 0 ∅ 0
    ∗ dutyTok ER (readyCell (prt j c) ch j) 0 () ∗ dutyTok ER (sendCell c ch) j () ∗ dutyTok ER (recvCell (prt j c) ch) j ())
/-- The same for all exchanges from `e` on, -/
def Fut (ch : Fin 2) (c : Dev nD) (e : ℕ) : sProp 𝕄 := bigSep (Finset.Ico e 15) (fut ch c)
/-- the ready cells of the exchanges before `e`, their round over, -/
def Done (ch : Fin 2) (c : Dev nD) (e : ℕ) : sProp 𝕄 := bigSep (Finset.range e) fun j => atPos ER (readyCell c ch j) 1 ∅ 0

omit [FloatOps F] in
theorem Fut_step (ch : Fin 2) (c : Dev nD) {e : ℕ} (he : e < 15) : (Fut ch c e : sProp 𝕄) = iprop(fut ch c e ∗ Fut ch c (e + 1)) := by
  unfold Fut
  rw [← Finset.insert_Ico_add_one_left_eq_Ico he, bigSep_insert (by simp)]
  rfl
omit [FloatOps F] in
theorem Done_step (ch : Fin 2) (c : Dev nD) (e : ℕ) : (Done ch c (e + 1) : sProp 𝕄) = iprop(atPos ER (readyCell c ch e) 1 ∅ 0 ∗ Done ch c e) := by
  unfold Done; rw [Finset.range_add_one, bigSep_insert Finset.notMem_range_self]; rfl

/-- exchange `k` in flight, -/
def Chan (ch : Fin 2) (c : Dev nD) (k : ℕ) : sProp 𝕄 :=
  iprop(cred (tallyAt (sendCell c ch) 0 N) ∗ atPos ER (sendCell c ch) k ∅ 0 ∗ cred (tallyAt (recvCell c ch) k N) ∗ atPos ER (recvCell c ch) k ∅ 0
    ∗ Fut ch c (k + 1) ∗ Done ch c (k + 1))
/-- and all exchanges made. -/
def End (ch : Fin 2) (c : Dev nD) : sProp 𝕄 :=
  iprop(wP ch c (wAt m ρ ch 15 c) ∗ (∃ X, rP ch c X) ∗ atPos ER (sendCell c ch) 15 ∅ 0 ∗ atPos ER (recvCell c ch) 15 ∅ 0 ∗ Done ch c 15)

/-! ## One step -/

/-- The stages inside the device, if the exchange is followed by them: the working buffer is then as before the next. -/
theorem wp_close (c : Dev nD) (ch : Fin 2) (k : ℕ) (Q : PUnit → sProp 𝕄) :
    wP ch c (exch (posOf c) (lvl k) (dist k) (wAt m ρ ch k c) (wAt m ρ ch k (prt k c)))
      ⊢ iprop((wP ch c (wAt m ρ ch (k + 1) c) -∗ Q ⟨⟩) -∗ wpK c (bif closes k then mergeP ch (posOf c) (lvl k) else pure ⟨⟩) Q) := by
  have e : wAt m ρ ch (k + 1) c = nextV c k (wAt m ρ ch k c) (wAt m ρ ch k (prt k c)) := rfl
  rw [e]
  unfold nextV
  cases closes k
  · simp only [cond_false, Prog.pure_eq_ret]
    unfold wpK
    rw [wp_ret]
    iintro H HK
    imodintro
    iapply HK; iexact H
  · simp only [cond_true]
    exact wp_merge c ch (posOf c) (lvl k) _ Q

/-- Exchange `k` ended and the next started. -/
theorem wp_step (c : Dev nD) (ch : Fin 2) {k : ℕ} (hk : k < 14) (O : CellTallies nD τ sig ℕ) (hO : Above (4 * k + 2 * ch.val + 5) O) (Q : PUnit → sProp 𝕄) :
    iprop(records m ρ K ∗ levAts L lv ∗ Own c (O + owedFrom ch c (k + 1)) ∗ Chan ch c k)
      ⊢ iprop(((Own c (O + owedFrom ch c (k + 2)) ∗ Chan ch c (k + 1)) -∗ Q ⟨⟩) -∗ wpK c (step c ch k) Q) := by
  have hlt : Nat.blt k 14 = true := by rw [Nat.blt_eq]; exact hk
  have h2 : Above (4 * (k + 1) + 2 * ch.val + 1) (O + owedFrom ch c (k + 2)) :=
    (hO.mono (by omega)).add (Above.from ch c (k + 2) (by omega))
  unfold wpK step Chan
  rw [hlt, Fut_step ch c (show k + 1 < 15 by omega)]
  simp only [cond_true]
  unfold fut
  iintro ⟨#HR, #Hlev, HO, HcS, HaS, HcV, HaV, ⟨⟨⟨HcR', HcV'⟩, HaR', HtR', HtS', HtV'⟩, HF⟩, HD⟩ HK
  rw [wp_bind]
  iapply (wp_half m ρ K c ch (show k < 15 by omega) (O + owedFrom ch c (k + 1)) ((hO.mono (by omega)).add (Above.from ch c (k + 1) (by omega)))) $$ [HO HcS HaS HcV HaV]
  · isplitr; · iexact HR
    isplitr; · iexact Hlev
    isplitl [HO]; · iexact HO
    isplitl [HcS]; · iexact HcS
    isplitl [HaS]; · iexact HaS
    isplitl [HcV]; · iexact HcV
    iexact HaV
  iintro ⟨HO, Hw, Hr, HaS, #HrS, HaV, #HrV⟩
  rw [wp_bind]
  have e1 : O + owedFrom ch c (k + 1) = ((O + owedFrom ch c (k + 2)) + tallyAt (recvCell (prt (k + 1) c) ch) (k + 1) N) + tallyAt (readyCell (prt (k + 1) c) ch (k + 1)) 0 1 := by
    rw [owedFrom_step ch c (show k + 1 < 15 by omega)]; unfold owed1; abel
  rw [e1]
  iapply (wp_grant m ρ K c ch (show k + 1 < 15 by omega) _) $$ [HO HtR' Hr]
  · isplitr; · iexact HR
    isplitl [HO]; · iexact HO
    isplitl [HtR']; · iexact HtR'
    isplitl [Hr]; · iexact Hr
    iexact HrV
  iintro HO
  rw [wp_bind]
  iapply (wp_close m ρ c ch k) $$ Hw
  iintro Hw
  iapply (wp_go m ρ K c ch (show k + 1 < 15 by omega) (O + owedFrom ch c (k + 2)) h2) $$ [HO HcR' HaR' Hw HtS' HtV']
  · isplitr; · iexact HR
    isplitr; · iexact Hlev
    isplitl [HO]; · iexact HO
    isplitl [HcR']; · iexact HcR'
    isplitl [HaR']; · iexact HaR'
    isplitl [Hw]; · iexact Hw
    isplitl [HtS']; · iexact HtS'
    isplitr; · iexact HrS
    iexact HtV'
  iintro ⟨HO, HcS, HaR'⟩
  iapply HK
  isplitl [HO]; · iexact HO
  isplitl [HcS]; · iexact HcS
  isplitl [HaS]; · iexact HaS
  isplitl [HcV']; · iexact HcV'
  isplitl [HaV]; · iexact HaV
  isplitl [HF]; · iexact HF
  rw [Done_step ch c (k + 1)]
  isplitl [HaR']; · iexact HaR'
  iexact HD

/-- The last exchange ended. -/
theorem wp_last (c : Dev nD) (ch : Fin 2) (Q : PUnit → sProp 𝕄) :
    iprop(records m ρ K ∗ levAts L lv ∗ Own c 0 ∗ Chan ch c 14)
      ⊢ iprop(((Own c 0 ∗ End m ρ ch c) -∗ Q ⟨⟩) -∗ wpK c (step c ch 14) Q) := by
  have hlt : Nat.blt 14 14 = false := rfl
  unfold wpK step Chan End
  rw [hlt]
  simp only [cond_false]
  iintro ⟨#HR, #Hlev, HO, HcS, HaS, HcV, HaV, -, HD⟩ HK
  rw [wp_bind]
  iapply (wp_half m ρ K c ch (show 14 < 15 by omega) 0 (Above.zero _)) $$ [HO HcS HaS HcV HaV]
  · isplitr; · iexact HR
    isplitr; · iexact Hlev
    isplitl [HO]; · iexact HO
    isplitl [HcS]; · iexact HcS
    isplitl [HaS]; · iexact HaS
    isplitl [HcV]; · iexact HcV
    iexact HaV
  iintro ⟨HO, Hw, Hr, HaS, -, HaV, -⟩
  rw [Prog.pure_eq_ret, Prog.bind_ret, wp_bind]
  iapply (wp_close m ρ c ch 14) $$ Hw
  iintro Hw
  rw [wp_ret]; imodintro
  iapply HK
  isplitl [HO]; · iexact HO
  isplitl [Hw]; · iexact Hw
  isplitl [Hr]; · iexact Hr
  isplitl [HaS]; · iexact HaS
  isplitl [HaV]; · iexact HaV
  iexact HD

/-! ## All steps -/

/-- The first `n` exchanges of both chunks ended, the next in flight. -/
theorem wp_steps (c : Dev nD) (n : ℕ) (hn : n ≤ 14) (Q : PUnit → sProp 𝕄) :
    iprop(records m ρ K ∗ levAts L lv ∗ Own c (owedFrom 0 c 1 + owedFrom 1 c 1) ∗ Chan 0 c 0 ∗ Chan 1 c 0)
      ⊢ iprop(((Own c (owedFrom 0 c (n + 1) + owedFrom 1 c (n + 1)) ∗ Chan 0 c n ∗ Chan 1 c n) -∗ Q ⟨⟩) -∗ wpK c (steps c n) Q) := by
  induction n generalizing Q with
  | zero =>
    unfold wpK steps
    rw [Prog.pure_eq_ret, wp_ret]
    iintro ⟨-, -, HO, H0, H1⟩ HK
    imodintro
    iapply HK
    isplitl [HO]; · iexact HO
    isplitl [H0]; · iexact H0
    iexact H1
  | succ n ih =>
    unfold wpK steps
    rw [wp_bind]
    iintro ⟨#HR, #Hlev, HO, H0, H1⟩ HK
    iapply (ih (by omega) _) $$ [HO H0 H1]
    · isplitr; · iexact HR
      isplitr; · iexact Hlev
      isplitl [HO]; · iexact HO
      isplitl [H0]; · iexact H0
      iexact H1
    iintro ⟨HO, H0, H1⟩
    rw [wp_bind, add_comm (owedFrom 0 c (n + 1))]
    iapply (wp_step m ρ K c 0 (show n < 14 by omega) (owedFrom 1 c (n + 1)) (Above.from 1 c (n + 1) (by show _ < 4 * (n + 1) + 2 * 1 + 1; simp only [Fin.val_zero]; omega))) $$ [HO H0]
    · isplitr; · iexact HR
      isplitr; · iexact Hlev
      isplitl [HO]; · iexact HO
      iexact H0
    iintro ⟨HO, H0⟩
    rw [add_comm (owedFrom 1 c (n + 1))]
    iapply (wp_step m ρ K c 1 (show n < 14 by omega) (owedFrom 0 c (n + 2)) (Above.from 0 c (n + 2) (by show 4 * n + 2 * 1 + 5 < 4 * (n + 2) + 2 * 0 + 1; omega))) $$ [HO H1]
    · isplitr; · iexact HR
      isplitr; · iexact Hlev
      isplitl [HO]; · iexact HO
      iexact H1
    iintro ⟨HO, H1⟩
    iapply HK
    isplitl [HO]; · iexact HO
    isplitl [H0]; · iexact H0
    iexact H1

/-- All exchanges. -/
theorem wp_all (c : Dev nD) (Q : PUnit → sProp 𝕄) :
    iprop(records m ρ K ∗ levAts L lv ∗ Own c (owedFrom 0 c 1 + owedFrom 1 c 1) ∗ Chan 0 c 0 ∗ Chan 1 c 0)
      ⊢ iprop(((Own c 0 ∗ End m ρ 0 c ∗ End m ρ 1 c) -∗ Q ⟨⟩) -∗ wpK c (steps c 15) Q) := by
  have e : steps (F := F) c 15 = (steps c 14 >>= fun _ => step c 0 14 >>= fun _ => step c 1 14) := rfl
  obtain ⟨n, hn⟩ : ∃ n, n = 14 := ⟨14, rfl⟩
  unfold wpK
  rw [e, ← hn, wp_bind]
  iintro ⟨#HR, #Hlev, HO, H0, H1⟩ HK
  iapply (wp_steps m ρ K c n (Nat.le_of_eq hn) _) $$ [HO H0 H1]
  · isplitr; · iexact HR
    isplitr; · iexact Hlev
    isplitl [HO]; · iexact HO
    isplitl [H0]; · iexact H0
    iexact H1
  iintro ⟨HO, H0, H1⟩
  rw [hn, wp_bind, owedFrom_end, owedFrom_end, add_zero]
  iapply (wp_last m ρ K c 0) $$ [HO H0]
  · isplitr; · iexact HR
    isplitr; · iexact Hlev
    isplitl [HO]; · iexact HO
    iexact H0
  iintro ⟨HO, H0⟩
  iapply (wp_last m ρ K c 1) $$ [HO H1]
  · isplitr; · iexact HR
    isplitr; · iexact Hlev
    isplitl [HO]; · iexact HO
    iexact H1
  iintro ⟨HO, H1⟩
  iapply HK
  isplitl [HO]; · iexact HO
  isplitl [H0]; · iexact H0
  iexact H1

end Cert.Proof.KernelIdeal

end
-- ==== Proof.KernelIdeal.Body.lean ====
/-
  The kernel's body on one device: from its part of the protocol's resources and its staging buffers — its block of `x`
  fetched, the result's at anything — to the result's staging buffer at the device's final contents, every cell closed and
  nothing owed.
-/
module

public import proofs.«01_k».proof.Proof.KernelIdeal.Steps
public import proofs.«01_k».proof.Proof.KernelIdeal.BodyEq
public import proofs.«01_k».proof.Proof.Gen.KernelIdeal.Points
public import Idealize.ShloMosaic.Lib.Rounds.Family

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig ℕ (Elt F) ℕ UU ℕ

variable (m : (ℓ : Loc nD τ sig) → Buf (Elt F) ℓ) (ρ : Dev nD → PrngReg) (K : Dev nD × OwnK → ℕ)

/-! ## The result -/

/-- The result's staging buffer once a chunk's values `z` are stored, widened, over `f`. -/
def giveV (ch : Fin 2) (z : V F) (f : (cc0_stg1_0 : Ref sig .tc).ty.Contents (Elt F)) : (cc0_stg1_0 : Ref sig .tc).ty.Contents (Elt F) :=
  (oM.access (rX ch) : View sig .tc _ _ _).write (Elt F) f (extf .f32 z bitsLt_bf16_f32) Finset.univ

theorem write_at (r : Rect S2048x512) (f : (cc0_stg1_0 : Ref sig .tc).ty.Contents (Elt F)) (w : r.shape.Idx → Elt F .f32) (j : r.shape.Idx) :
    (oM.access r : View sig .tc _ _ _).write (Elt F) f w Finset.univ (r.emb j) = w j :=
  View.read_slice_write_emb (v := oM.view) r f w (Finset.mem_univ j)

theorem giveV_at (ch : Fin 2) (z : V F) (f : (cc0_stg1_0 : Ref sig .tc).ty.Contents (Elt F)) (j : S2048x256.Idx) :
    giveV ch z f ((rX ch).emb j) = extf .f32 z bitsLt_bf16_f32 j := write_at (rX ch) f _ j

theorem giveV_off (z : V F) (f : (cc0_stg1_0 : Ref sig .tc).ty.Contents (Elt F)) (j : S2048x256.Idx) :
    giveV 1 z f ((rX 0).emb j) = f ((rX 0).emb j) :=
  View.read_slice_write_of_not_mem (v := oM.view) (rX 1) f (extf .f32 z bitsLt_bf16_f32) Finset.univ (fun h => by
    obtain ⟨i, -, hi⟩ := Finset.mem_map.mp h
    have h1 := congrArg (fun x : S2048x512.Idx => (x 1).val) hi
    have h2 : (j (1 : Fin 2)).val < 256 := (j (1 : Fin 2)).isLt
    have e1 : ((rX 1).emb i (1 : Fin 2)).val = 256 + 1 * (i (1 : Fin 2)).val := rfl
    have e0 : ((rX 0).emb j (1 : Fin 2)).val = 0 + 1 * (j (1 : Fin 2)).val := rfl
    have h3 : 256 + 1 * (i (1 : Fin 2)).val = 0 + 1 * (j (1 : Fin 2)).val := h1
    omega)

/-- Every element of the block lies in one of the two chunks. -/
theorem cover (i : S2048x512.Idx) : ∃ (ch : Fin 2) (j : S2048x256.Idx), i = (rX ch).emb j := by
  have h0 : (i (0 : Fin 2)).val < 2048 := (i (0 : Fin 2)).isLt
  have h1 : (i (1 : Fin 2)).val < 512 := (i (1 : Fin 2)).isLt
  have hd : (i (1 : Fin 2)).val / 256 < 2 := by omega
  refine ⟨⟨(i (1 : Fin 2)).val / 256, hd⟩, fun a => match a with
    | 0 => ⟨(i (0 : Fin 2)).val, h0⟩
    | 1 => ⟨(i (1 : Fin 2)).val % 256, Nat.mod_lt _ (by decide)⟩, funext fun a => Fin.ext ?_⟩
  match a with
  | 0 => show (i (0 : Fin 2)).val = 0 + 1 * (i (0 : Fin 2)).val; omega
  | 1 => show (i (1 : Fin 2)).val = 256 * ((i (1 : Fin 2)).val / 256) + 1 * ((i (1 : Fin 2)).val % 256); omega

/-- The kernel's result on device `c`: both chunks' final contents, widened. -/
def outAt (c : Dev nD) : (cc0_stg1_0 : Ref sig .tc).ty.Contents (Elt F) :=
  giveV 1 (wAt m ρ 1 15 c) (giveV 0 (wAt m ρ 0 15 c) fun _ => extf .f32 (wAt m ρ 0 15 c) bitsLt_bf16_f32 fun a => ⟨0, by revert a; decide⟩)

theorem outAt_at (c : Dev nD) (ch : Fin 2) (j : S2048x256.Idx) : outAt m ρ c ((rX ch).emb j) = extf .f32 (wAt m ρ ch 15 c) bitsLt_bf16_f32 j := by
  unfold outAt
  match ch with
  | 0 => rw [giveV_off, giveV_at]
  | 1 => rw [giveV_at]

/-- The two stores leave it, whatever the buffer held. -/
theorem give_give (c : Dev nD) (f : (cc0_stg1_0 : Ref sig .tc).ty.Contents (Elt F)) :
    giveV 1 (wAt m ρ 1 15 c) (giveV 0 (wAt m ρ 0 15 c) f) = outAt m ρ c := by
  funext i
  obtain ⟨ch, j, rfl⟩ := cover i
  rw [outAt_at]
  match ch with
  | 0 => rw [giveV_off, giveV_at]
  | 1 => rw [giveV_at]

/-! ## The two ends of the body -/

/-- The block of `x`, in its staging buffer; the result's staging buffer at `f`. -/
def xPts (c : Dev nD) : sProp 𝕄 := ((c : Thread nD τ).loc cc0_stg0_0) ↦{fullShare} xstg m ρ c
def oPts (c : Dev nD) (f : (cc0_stg1_0 : Ref sig .tc).ty.Contents (Elt F)) : sProp 𝕄 := ((c : Thread nD τ).loc cc0_stg1_0) ↦{fullShare} f

theorem wp_take (c : Dev nD) (ch : Fin 2) (Q : PUnit → sProp 𝕄) :
    iprop(xPts m ρ c ∗ ∃ X, wP ch c X) ⊢ iprop(((xPts m ρ c ∗ wP ch c (chunk m ρ ch c)) -∗ Q ⟨⟩) -∗ wpK c (take ch) Q) := by
  unfold wpK take xPts
  simp only [Prog.lift, Prog.bind_op, Prog.bind_ret]
  iintro ⟨Hx, ⟨%X, Hw⟩⟩ HK
  iapply (wp_load 𝒱₀ (c : Thread nD τ) none Set.univ (m := xM) (Finset.subset_univ _)) $$ Hx; iintro Hx
  rw [wp_bind]
  iapply (wp_load_w c ch X) $$ Hw; iintro Hw
  iapply (wp_store_w c ch X) $$ Hw; iintro Hw
  iapply HK
  isplitl [Hx]; · iexact Hx
  unfold chunk
  iexact Hw

theorem wp_give (c : Dev nD) (ch : Fin 2) (z : V F) (f : (cc0_stg1_0 : Ref sig .tc).ty.Contents (Elt F)) (Q : PUnit → sProp 𝕄) :
    iprop(oPts c f ∗ wP ch c z) ⊢ iprop(((oPts c (giveV ch z f) ∗ wP ch c z) -∗ Q ⟨⟩) -∗ wpK c (give ch) Q) := by
  unfold wpK give oPts
  simp only [Prog.lift, Prog.bind_op, Prog.bind_ret]
  iintro ⟨Ho, Hw⟩ HK
  rw [wp_bind]
  iapply (wp_load_w c ch z) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rX ch) (Mk := Finset.univ) (Finset.subset_univ _)) $$ Ho; iintro Ho
  rw [wp_ret]; imodintro
  iapply HK
  isplitl [Ho]; · unfold giveV; iexact Ho
  iexact Hw

/-! ## The body -/

/-- A chunk's resources before its first exchange: its two buffers at anything, the positions on its send and receive
    cells, what its fifteen exchanges take. -/
def Begin (ch : Fin 2) (c : Dev nD) : sProp 𝕄 :=
  iprop((∃ X, wP ch c X) ∗ (∃ X, rP ch c X) ∗ atPos ER (sendCell c ch) 0 ∅ 0 ∗ atPos ER (recvCell c ch) 0 ∅ 0 ∗ Fut ch c 0)

/-- A chunk taken, sorted within the device, and its first transfer started. -/
theorem wp_start (c : Dev nD) (ch : Fin 2) (O : CellTallies nD τ sig ℕ) (hO : Above (2 * ch.val + 1) O) {α : Type} (p : P (F := F) α) (Q : α → sProp 𝕄) :
    iprop(records m ρ K ∗ levAts L lv ∗ Own c (O + tallyAt (recvCell (prt 0 c) ch) 0 N) ∗ xPts m ρ c ∗ (∃ X, wP ch c X)
        ∗ cred (tallyAt (readyCell c ch 0) 0 1) ∗ atPos ER (readyCell c ch 0) 0 ∅ 0 ∗ dutyTok ER (sendCell c ch) 0 () ∗ dutyTok ER (recvCell (prt 0 c) ch) 0 ())
      ⊢ iprop(((Own c O ∗ xPts m ρ c ∗ cred (tallyAt (sendCell c ch) 0 N) ∗ atPos ER (readyCell c ch 0) 1 ∅ 0) -∗ wpK c p Q)
        -∗ wpK c (take ch >>= fun _ => sortP ch (posOf c) >>= fun _ => go c ch 0 >>= fun _ => p) Q) := by
  unfold wpK
  iintro ⟨#HR, #Hlev, HO, Hx, Hw, HcR, HaR, HtS, HtV⟩ HK
  rw [wp_bind]
  iapply (wp_take m ρ c ch) $$ [Hx Hw]
  · isplitl [Hx]; · iexact Hx
    iexact Hw
  iintro ⟨Hx, Hw⟩
  rw [wp_bind]
  iapply (wp_sort c ch (posOf c)) $$ Hw
  iintro Hw
  rw [wp_bind]
  iapply (wp_go m ρ K c ch (show 0 < 15 by decide) O (hO.mono (by omega))) $$ [HO HcR HaR Hw HtS HtV]
  · isplitr; · iexact HR
    isplitr; · iexact Hlev
    isplitl [HO]; · iexact HO
    isplitl [HcR]; · iexact HcR
    isplitl [HaR]; · iexact HaR
    isplitl [Hw]; · iexact Hw
    isplitl [HtS]; · iexact HtS
    isplitr; · iapply (reached_at m ρ K c (iSend ch) _ (osem_send ch)); iexact HR
    iexact HtV
  iintro ⟨HO, HcS, HaR⟩
  iapply HK
  isplitl [HO]; · iexact HO
  isplitl [Hx]; · iexact Hx
  isplitl [HcS]; · iexact HcS
  iexact HaR

theorem Done_one (ch : Fin 2) (c : Dev nD) : (atPos ER (readyCell c ch 0) 1 ∅ 0 : sProp 𝕄) ⊢ Done ch c 1 := by
  unfold Done
  rw [Finset.range_one, bigSep_singleton]

set_option maxHeartbeats 1600000 in
theorem wp_body (c : Dev nD) (f : (cc0_stg1_0 : Ref sig .tc).ty.Contents (Elt F)) (Q : PUnit → sProp 𝕄) :
    iprop(records m ρ K ∗ levAts L lv ∗ Own c (O₀ c) ∗ Begin 0 c ∗ Begin 1 c ∗ xPts m ρ c ∗ oPts c f)
      ⊢ iprop(((Own c 0 ∗ End m ρ 0 c ∗ End m ρ 1 c ∗ xPts m ρ c ∗ oPts c (outAt m ρ c)) -∗ Q ⟨⟩) -∗ wpK c body Q) := by
  unfold wpK body Begin
  simp only [Prog.lift, Prog.bind_op, Prog.bind_ret, wp_deviceId]
  rw [Fut_step 0 c (show 0 < 15 by decide), Fut_step 1 c (show 0 < 15 by decide)]
  unfold fut
  iintro ⟨#HR, #Hlev, HO, ⟨Hw0, Hr0, HaS0, HaV0, ⟨⟨⟨HcR0, HcV0⟩, HaR0, HtR0, HtS0, HtV0⟩, HF0⟩⟩, ⟨Hw1, Hr1, HaS1, HaV1, ⟨⟨⟨HcR1, HcV1⟩, HaR1, HtR1, HtS1, HtV1⟩, HF1⟩⟩, Hx, Ho⟩ HK
  have e0 : O₀ c = ((((owedFrom 0 c 1 + owedFrom 1 c 1) + tallyAt (recvCell (prt 0 c) 1) 0 N) + tallyAt (recvCell (prt 0 c) 0) 0 N) + tallyAt (readyCell (prt 0 c) 1 0) 0 1)
      + tallyAt (readyCell (prt 0 c) 0 0) 0 1 := by
    unfold O₀
    rw [owedFrom_step 0 c (show 0 < 15 by decide), owedFrom_step 1 c (show 0 < 15 by decide)]; unfold owed1; abel
  rw [e0, wp_bind]
  have hA : Above 3 (owedFrom 0 c 1 + owedFrom 1 c 1) := (Above.from 0 c 1 (by decide)).add (Above.from 1 c 1 (by decide))
  iapply (wp_grant m ρ K c 0 (show 0 < 15 by decide) _) $$ [HO HtR0 Hr0]
  · isplitr; · iexact HR
    isplitl [HO]; · iexact HO
    isplitl [HtR0]; · iexact HtR0
    isplitl [Hr0]; · iexact Hr0
    iapply (reached_at m ρ K c (iRecv 0) _ (osem_recv 0)); iexact HR
  iintro HO
  rw [wp_bind]
  iapply (wp_grant m ρ K c 1 (show 0 < 15 by decide) _) $$ [HO HtR1 Hr1]
  · isplitr; · iexact HR
    isplitl [HO]; · iexact HO
    isplitl [HtR1]; · iexact HtR1
    isplitl [Hr1]; · iexact Hr1
    iapply (reached_at m ρ K c (iRecv 1) _ (osem_recv 1)); iexact HR
  iintro HO
  iapply (wp_start m ρ K c 0 ((owedFrom 0 c 1 + owedFrom 1 c 1) + tallyAt (recvCell (prt 0 c) 1) 0 N) ((hA.mono (by decide)).add (Above.at (by decide) (by rw [lv_recv]; decide))) _ Q) $$ [HO Hx Hw0 HcR0 HaR0 HtS0 HtV0]
  · isplitr; · iexact HR
    isplitr; · iexact Hlev
    isplitl [HO]; · iexact HO
    isplitl [Hx]; · iexact Hx
    isplitl [Hw0]; · iexact Hw0
    isplitl [HcR0]; · iexact HcR0
    isplitl [HaR0]; · iexact HaR0
    isplitl [HtS0]; · iexact HtS0
    iexact HtV0
  iintro ⟨HO, Hx, HcS0, HaR0⟩
  iapply (wp_start m ρ K c 1 (owedFrom 0 c 1 + owedFrom 1 c 1) hA _ Q) $$ [HO Hx Hw1 HcR1 HaR1 HtS1 HtV1]
  · isplitr; · iexact HR
    isplitr; · iexact Hlev
    isplitl [HO]; · iexact HO
    isplitl [Hx]; · iexact Hx
    isplitl [Hw1]; · iexact Hw1
    isplitl [HcR1]; · iexact HcR1
    isplitl [HaR1]; · iexact HaR1
    isplitl [HtS1]; · iexact HtS1
    iexact HtV1
  iintro ⟨HO, Hx, HcS1, HaR1⟩
  unfold wpK
  rw [wp_bind]
  iapply (wp_all m ρ K c) $$ [HO HcS0 HaS0 HcV0 HaV0 HF0 HaR0 HcS1 HaS1 HcV1 HaV1 HF1 HaR1]
  · isplitr; · iexact HR
    isplitr; · iexact Hlev
    isplitl [HO]; · iexact HO
    unfold Chan
    isplitl [HcS0 HaS0 HcV0 HaV0 HF0 HaR0]
    · isplitl [HcS0]; · iexact HcS0
      isplitl [HaS0]; · iexact HaS0
      isplitl [HcV0]; · iexact HcV0
      isplitl [HaV0]; · iexact HaV0
      isplitl [HF0]; · iexact HF0
      iapply (Done_one 0 c); iexact HaR0
    · isplitl [HcS1]; · iexact HcS1
      isplitl [HaS1]; · iexact HaS1
      isplitl [HcV1]; · iexact HcV1
      isplitl [HaV1]; · iexact HaV1
      isplitl [HF1]; · iexact HF1
      iapply (Done_one 1 c); iexact HaR1
  iintro ⟨HO, H0, H1⟩
  unfold End
  icases H0 with ⟨Hw0, H0⟩
  icases H1 with ⟨Hw1, H1⟩
  rw [wp_bind]
  iapply (wp_give c 0 (wAt m ρ 0 15 c) f) $$ [Ho Hw0]
  · isplitl [Ho]; · iexact Ho
    iexact Hw0
  iintro ⟨Ho, Hw0⟩
  iapply (wp_give c 1 (wAt m ρ 1 15 c) (giveV 0 (wAt m ρ 0 15 c) f)) $$ [Ho Hw1]
  · isplitl [Ho]; · iexact Ho
    iexact Hw1
  iintro ⟨Ho, Hw1⟩
  rw [give_give]
  iapply HK
  isplitl [HO]; · iexact HO
  isplitl [Hw0 H0]
  · isplitl [Hw0]; · iexact Hw0
    iexact H0
  isplitl [Hw1 H1]
  · isplitl [Hw1]; · iexact Hw1
    iexact H1
  isplitl [Hx]; · iexact Hx
  iexact Ho

end Cert.Proof.KernelIdeal

end
-- ==== Proof.KernelIdeal.Data.lean ====
/-
  The pipeline's proof data for the kernel's one grid point, and the obligation its body meets: the invariant before the
  point holds the device's share of the protocol (`start`) and the four scratch buffers; after it, the kernel's own
  semaphores at zero and the buffers back.
-/
module

public import proofs.«01_k».proof.Proof.KernelIdeal.Body

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig ℕ (Elt F) ℕ UU ℕ

variable (m : (ℓ : Loc nD τ sig) → Buf (Elt F) ℓ) (ρ : Dev nD → PrngReg) (K : Dev nD × OwnK → ℕ)

/-! ## A device's share of the protocol at launch -/

/-- A chunk and one of its exchanges. -/
abbrev Ex : Type := Fin 2 × Fin 15

/-- The tokens of the duties device `c` pays in one exchange, -/
def payTok (c : Dev nD) (ch : Fin 2) (j : ℕ) : sProp 𝕄 :=
  iprop(dutyTok ER (readyCell (prt j c) ch j) 0 () ∗ dutyTok ER (sendCell c ch) j () ∗ dutyTok ER (recvCell (prt j c) ch) j ())
/-- and the credits it waits with in one exchange. -/
def creditOf (c : Dev nD) (ch : Fin 2) (j : ℕ) : sProp 𝕄 :=
  iprop(cred (tallyAt (readyCell c ch j) 0 1) ∗ cred (tallyAt (recvCell c ch) j N))

/-- Its positions on its own cells, all at the start, and the tokens; -/
def linear (c : Dev nD) : sProp 𝕄 :=
  iprop((bigSep Finset.univ fun i : OwnK => atPos ER (kcell (c, i)) 0 ∅ 0) ∗ bigSep Finset.univ fun e : Ex => payTok c e.1 e.2.val)
/-- the credits; -/
def credits (c : Dev nD) : sProp 𝕄 := bigSep Finset.univ fun e : Ex => creditOf c e.1 e.2.val
/-- with the records and the levels, what device `c` starts from. -/
def start (c : Dev nD) : sProp 𝕄 := iprop((∃ K, records m ρ K ∗ linear c) ∗ credits c ∗ levAts L lv)

/-- The four scratch buffers, at anything. -/
def scratch (c : Dev nD) : sProp 𝕄 := iprop((∃ X, wP 0 c X) ∗ (∃ X, wP 1 c X) ∗ (∃ X, rP 0 c X) ∗ ∃ X, rP 1 c X)

/-- The invariant before the one point, and after it. -/
def Φ₀ (c : Dev nD) : sProp 𝕄 := iprop(start m ρ c ∗ scratch c)
def Φ₁ (c : Dev nD) : sProp 𝕄 := iprop(Pipeline.ownSems0 osem c ∗ scratch c)

/-- The pipeline's proof data: the arrays at their launch contents; after the body `x`'s staging buffer as fetched and the
    result's at `outAt`; full shares; owed `O₀ c` before the point and nothing after. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Regrouping over the exchanges and the cells -/

omit [FloatOps F] in
theorem bigSep_fin_range (n : ℕ) (Ψ : ℕ → sProp 𝕄) : (bigSep Finset.univ fun j : Fin n => Ψ j.val) = bigSep (Finset.range n) Ψ := by
  have h : Finset.range n = (Finset.univ : Finset (Fin n)).map Fin.valEmbedding := by
    ext x; simp only [Finset.mem_range, Finset.mem_map, Finset.mem_univ, true_and, Fin.valEmbedding_apply]
    exact ⟨fun hx => ⟨⟨x, hx⟩, rfl⟩, fun ⟨j, hj⟩ => hj ▸ j.isLt⟩
  rw [h, bigSep_map]; rfl

omit [FloatOps F] in
/-- Over both chunks' exchanges, chunk by chunk. -/
theorem bigSep_ex (Ψ : Fin 2 → ℕ → sProp 𝕄) :
    (bigSep Finset.univ fun e : Ex => Ψ e.1 e.2.val) = iprop(bigSep (Finset.range 15) (Ψ 0) ∗ bigSep (Finset.range 15) (Ψ 1)) := by
  rw [bigSep_univ_prod, bigSep_fin_two, bigSep_fin_range 15 (Ψ 0), bigSep_fin_range 15 (Ψ 1)]; rfl

/-- The positions on one chunk's cells. -/
def posCh (R : ℕ → ℕ) (c : Dev nD) (ch : Fin 2) : sProp 𝕄 :=
  iprop(atPos ER (recvCell c ch) (R 16) ∅ 0 ∗ atPos ER (sendCell c ch) (R 15) ∅ 0 ∗ bigSep (Finset.range 15) fun j => atPos ER (readyCell c ch j) (R j) ∅ 0)

omit [FloatOps F] in
theorem pos_ch (R : ℕ → ℕ) (c : Dev nD) (ch : Fin 2) :
    (bigSep Finset.univ fun i : Fin 17 => (atPos ER (kcell (c, (ch, i))) (R i.val) ∅ 0 : sProp 𝕄)) = posCh R c ch := by
  have h := bigSep_fin_range (F := F) 17 fun j => atPos ER ((c : Thread nD τ),
    if j < 15 then SemLoc.reg (readyS ch j) else if j = 15 then .dma (sendS ch) else .dma (recvS ch)) (R j) ∅ 0
  rw [show (17 : ℕ) = 16 + 1 from rfl, Finset.range_add_one, bigSep_insert Finset.notMem_range_self, show (16 : ℕ) = 15 + 1 from rfl,
    Finset.range_add_one, bigSep_insert Finset.notMem_range_self] at h
  refine Eq.trans h ?_
  unfold posCh
  rw [bigSep_congr (s := Finset.range 15) fun j hj => by rw [if_pos (Finset.mem_range.mp hj)]]
  rfl

omit [FloatOps F] in
theorem pos_all (R : ℕ → ℕ) (c : Dev nD) :
    (bigSep Finset.univ fun i : OwnK => (atPos ER (kcell (c, i)) (R i.2.val) ∅ 0 : sProp 𝕄)) = iprop(posCh R c 0 ∗ posCh R c 1) := by
  rw [bigSep_univ_prod, bigSep_fin_two]
  rw [pos_ch R c 0, pos_ch R c 1]
  rfl

omit [FloatOps F] in
/-- What a chunk's exchanges take, gathered. -/
theorem Fut_zero (ch : Fin 2) (c : Dev nD) : (Fut ch c 0 : sProp 𝕄)
    = iprop(bigSep (Finset.range 15) (creditOf c ch) ∗ (bigSep (Finset.range 15) fun j => atPos ER (readyCell c ch j) 0 ∅ 0) ∗ bigSep (Finset.range 15) (payTok c ch)) := by
  unfold Fut
  rw [← bigSep_sep', ← bigSep_sep', Finset.range_eq_Ico]
  rfl

/-- A device's share, chunk by chunk. -/
theorem begin_intro (c : Dev nD) : iprop(linear c ∗ credits c ∗ scratch c) ⊢ (iprop(Begin 0 c ∗ Begin 1 c) : sProp 𝕄) := by
  unfold linear credits scratch Begin
  rw [pos_all (fun _ => 0) c, bigSep_ex (payTok c), bigSep_ex (creditOf c), Fut_zero, Fut_zero]
  unfold posCh
  iintro ⟨⟨⟨⟨HV0, HS0, HR0⟩, ⟨HV1, HS1, HR1⟩⟩, ⟨Ht0, Ht1⟩⟩, ⟨Hc0, Hc1⟩, Hw0, Hw1, Hr0, Hr1⟩
  isplitl [HV0 HS0 HR0 Ht0 Hc0 Hw0 Hr0]
  · isplitl [Hw0]; · iexact Hw0
    isplitl [Hr0]; · iexact Hr0
    isplitl [HS0]; · iexact HS0
    isplitl [HV0]; · iexact HV0
    isplitl [Hc0]; · iexact Hc0
    isplitl [HR0]; · iexact HR0
    iexact Ht0
  · isplitl [Hw1]; · iexact Hw1
    isplitl [Hr1]; · iexact Hr1
    isplitl [HS1]; · iexact HS1
    isplitl [HV1]; · iexact HV1
    isplitl [Hc1]; · iexact Hc1
    isplitl [HR1]; · iexact HR1
    iexact Ht1

/-! ## The cells closed -/

/-- The round after a cell's last. -/
abbrev lastR (j : ℕ) : ℕ := if j < 15 then 1 else 15

theorem rounds_own (c : Dev nD) (i : OwnK) : rounds (kcell (c, i)) ≤ lastR i.2.val := by
  have h : ∀ i : OwnK, rounds (((0 : Dev nD) : Thread nD τ), osem i) ≤ lastR i.2.val := by decide +kernel
  exact h i

/-- The cells of a device, every round over, close. -/
theorem close_all (c : Dev nD) :
    iprop(records m ρ K ∗ End m ρ 0 c ∗ End m ρ 1 c) ⊢ |={Set.univ}=> (iprop(Pipeline.ownSems0 osem c ∗ scratch c) : sProp 𝕄) := by
  unfold End Done
  iintro ⟨#HR, ⟨Hw0, Hr0, HS0, HV0, HD0⟩, ⟨Hw1, Hr1, HS1, HV1, HD1⟩⟩
  ihave Hpos := (Entails.of_eq (pos_all (F := F) lastR c).symm) $$ [HS0 HV0 HD0 HS1 HV1 HD1]
  · unfold posCh
    isplitl [HS0 HV0 HD0]
    · isplitl [HV0]; · iexact HV0
      isplitl [HS0]; · iexact HS0
      iapply (Entails.of_eq (bigSep_congr (s := Finset.range 15) (fun j hj => by rw [show lastR j = 1 from if_pos (Finset.mem_range.mp hj)]))); iexact HD0
    · isplitl [HV1]; · iexact HV1
      isplitl [HS1]; · iexact HS1
      iapply (Entails.of_eq (bigSep_congr (s := Finset.range 15) (fun j hj => by rw [show lastR j = 1 from if_pos (Finset.mem_range.mp hj)]))); iexact HD1
  imod (Rounds.cells_close ER (exRd m ρ) (Finset.univ : Finset OwnK) (fun i => kcell (c, i)) (fun i => K (c, i)) (fun _ _ => Set.mem_univ _) (fun _ _ h => h)
    (fun i => lastR i.2.val) (fun i _ => duties_of_ge m ρ (rounds_own c i))) $$ [Hpos] with Hz
  · rw [bigSep_sep']
    isplitr
    · iapply (BI.bigSep_intro_persistent (R := records m ρ K) fun i _ => inv_at m ρ K c i (osem i) rfl)
      iexact HR
    · iexact Hpos
  imodintro
  isplitl [Hz]; · unfold Pipeline.ownSems0; iexact Hz
  unfold scratch
  isplitl [Hw0]; · iexists _; iexact Hw0
  isplitl [Hw1]; · iexists _; iexact Hw1
  isplitl [Hr0]; · iexact Hr0
  iexact Hr1

/-! ## The body's obligation -/

/-- What the body is called with: the invariant before, what is owed, and the two staging buffers; -/
def bodyPre (c : Dev nD) : sProp 𝕄 :=
  iprop(Φ₀ m ρ c ∗ (dats m ρ 0 c).owesAt 0 t0_0.castSucc
    ∗ (∃ d, ∃ f : Buf (Elt F) ((c : Thread nD τ).loc cc0_stg0_0), ⌜f = (dats m ρ 0 c).before (0 : Fin 2) t0_0 d⌝ ∗ (((c : Thread nD τ).loc cc0_stg0_0) ↦{fullShare} f))
    ∗ (∃ d, ∃ f : Buf (Elt F) ((c : Thread nD τ).loc cc0_stg1_0), ⌜f = (dats m ρ 0 c).before (1 : Fin 2) t0_0 d⌝ ∗ (((c : Thread nD τ).loc cc0_stg1_0) ↦{fullShare} f)))

/-- and what it returns. -/
def bodyPost (c : Dev nD) : sProp 𝕄 :=
  iprop(Φ₁ c ∗ (dats m ρ 0 c).owesAt 0 t0_0.succ
    ∗ (∃ f : Buf (Elt F) ((c : Thread nD τ).loc cc0_stg0_0), ⌜f = xstg m ρ c⌝ ∗ (((c : Thread nD τ).loc cc0_stg0_0) ↦{fullShare} f))
    ∗ (∃ f : Buf (Elt F) ((c : Thread nD τ).loc cc0_stg1_0), ⌜f = outAt m ρ c⌝ ∗ (((c : Thread nD τ).loc cc0_stg1_0) ↦{fullShare} f)))

/-- The body from the one to the other. -/
theorem sound_body (c : Dev nD) : bodyPre m ρ c ⊢ wpK c body fun _ => bodyPost m ρ c := by
  unfold bodyPre Φ₀ start
  iintro ⟨⟨⟨⟨%K, #HR, Hlin⟩, Hcr, #Hlev⟩, Hscr⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  ihave HB := (begin_intro (F := F) c) $$ [Hlin Hcr Hscr]
  · isplitl [Hlin]; · iexact Hlin
    isplitl [Hcr]; · iexact Hcr
    iexact Hscr
  icases HB with ⟨HB0, HB1⟩
  iapply (wp_fupd frame (wpE (defs₀ (F := F)) 𝒱₀ (c : Thread nD τ) none) Set.univ (body (F := F)) fun _ => bodyPost m ρ c)
  iapply (wp_body m ρ K c g1 _) $$ [HO HB0 HB1 Hx Hout]
  · isplitr; · iexact HR
    isplitr; · iexact Hlev
    isplitl [HO]; · unfold Own; iexists W; iexact HO
    isplitl [HB0]; · iexact HB0
    isplitl [HB1]; · iexact HB1
    isplitl [Hx]; · unfold xPts; iexact Hx
    unfold oPts; iexact Hout
  iintro ⟨HO, HE0, HE1, Hx, Hout⟩
  imod (close_all m ρ K c) $$ [HE0 HE1] with ⟨Hz, Hscr⟩
  · isplitr; · iexact HR
    isplitl [HE0]; · iexact HE0
    iexact HE1
  imodintro
  unfold bodyPost Φ₁ Dat.owesAt Pipeline.owesWithin
  rw [show (dats m ρ 0 c).owed t0_0.succ = 0 from rfl]
  isplitl [Hz Hscr]
  · isplitl [Hz]; · iexact Hz
    iexact Hscr
  isplitl [HO]
  · unfold Own; icases HO with ⟨%W', HO⟩
    iexists W'
    isplitr; · ipureintro; exact fun _ _ => Or.inl trivial
    iexact HO
  isplitl [Hx]
  · iexists _; isplitr; · (ipureintro; rfl)
    unfold xPts; iexact Hx
  iexists _; isplitr; · (ipureintro; rfl)
  unfold oPts; iexact Hout

set_option maxRecDepth 4000 in
/-- The pipeline's obligation on device `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) oM (Memref.isWhole_whole _) _ (Memref.isWhole_whole _) _ (Memref.isWhole_whole _)
      _ (Memref.isWhole_whole _) _ (Memref.isWhole_whole _) cc0_scratch4 cc0_scratch5 cc0_scratch6) (fun _ => bodyPost m ρ c)
  rw [cc0_body_eq]
  exact sound_body m ρ c

end Cert.Proof.KernelIdeal

end
-- ==== Proof.KernelIdeal.Launch.lean ====
/-
  What the launch deals: the units and bytes the devices owe one another, summed cell by cell into the credits each device
  waits with; the cells allocated, their records copied to every device, and the tokens carried to the devices that pay.
-/
module

public import proofs.«01_k».proof.Proof.KernelIdeal.Data

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig ℕ (Elt F) ℕ UU ℕ

variable (m : (ℓ : Loc nD τ sig) → Buf (Elt F) ℓ) (ρ : Dev nD → PrngReg)

/-! ## The credits -/

/-- What an exchange has device `c`'s own cells expect, -/
def due1 (ch : Fin 2) (c : Dev nD) (i : ℕ) : CellTallies nD τ sig ℕ := tallyAt (readyCell c ch i) 0 1 + tallyAt (recvCell c ch) i N
/-- and all exchanges together. -/
def due (c : Dev nD) : CellTallies nD τ sig ℕ := (∑ i ∈ Finset.range 15, due1 0 c i) + ∑ i ∈ Finset.range 15, due1 1 c i

/-- The partners of an exchange, as a permutation of the devices. -/
def prtE (i : ℕ) : Dev nD ≃ Dev nD := ⟨prt i, prt i, prt_prt i, prt_prt i⟩

/-- What all devices owe is what all devices are due. -/
theorem owed_total : ∑ d, O₀ d = ∑ c, due c := by
  have h (ch : Fin 2) : ∑ d, owedFrom ch d 0 = ∑ c, ∑ i ∈ Finset.range 15, due1 ch c i := by
    unfold owedFrom
    rw [Finset.sum_comm, Finset.sum_comm (s := Finset.univ) (t := Finset.range 15), Finset.range_eq_Ico]
    exact Finset.sum_congr rfl fun i _ => Equiv.sum_comp (prtE i) fun c => due1 ch c i
  unfold O₀ due
  rw [Finset.sum_add_distrib, Finset.sum_add_distrib, h, h]

/-- A device is due nothing on another's cells. -/
theorem due_off {c : Dev nD} {g : GSem nD τ sig} (h : g.1 ≠ (c : Thread nD τ)) : due c g = 0 := by
  have h1 (ch : Fin 2) (i : ℕ) : due1 ch c i g = 0 := by
    unfold due1
    rw [Pi.add_apply, tallyAt_ne_cell (fun e => h (congrArg Prod.fst e)), tallyAt_ne_cell (fun e => h (congrArg Prod.fst e)), add_zero]
  unfold due
  rw [Pi.add_apply, Finset.sum_apply, Finset.sum_apply, Finset.sum_eq_zero fun i _ => h1 0 i, Finset.sum_eq_zero fun i _ => h1 1 i, add_zero]

/-- So a device's cell is owed at launch what the device is due on it. -/
theorem launch_due (c : Dev nD) (sm : SemLoc sig) :
    launchCredit (Pipeline.owing O₀) 0 ((c : Thread nD τ), sm) = due c ((c : Thread nD τ), sm) := by
  refine Finsupp.ext fun i => ?_
  rw [Pipeline.launchCredit_owing]
  have h := congrArg (fun T : CellTallies nD τ sig ℕ => T ((c : Thread nD τ), sm) i) owed_total
  simp only [Finset.sum_apply, Finsupp.finset_sum_apply] at h
  rw [h]
  refine Finset.sum_eq_single c (fun d _ hd => ?_) fun hc => absurd (Finset.mem_univ c) hc
  rw [due_off fun e => hd (Prod.mk.inj e).1.symm]; rfl

omit [FloatOps F] in
theorem cred_sum_range (f : ℕ → CellTallies nD τ sig ℕ) (S : Finset ℕ) : (cred (∑ i ∈ S, f i) : sProp 𝕄) = bigSep S fun i => cred (f i) := by
  induction S using Finset.induction_on with
  | empty => rw [Finset.sum_empty, cred_zero, bigSep_empty]; rfl
  | insert i S hi ih => rw [Finset.sum_insert hi, bigSep_insert hi, BI.Entails.antisymm (cred_add _ _).1 (cred_add _ _).2, ih]; rfl

omit [FloatOps F] in
theorem cred_due1 (c : Dev nD) (ch : Fin 2) : (cred (∑ i ∈ Finset.range 15, due1 ch c i) : sProp 𝕄) = bigSep (Finset.range 15) (creditOf c ch) := by
  rw [cred_sum_range]
  refine bigSep_congr fun i _ => ?_
  unfold due1 creditOf
  exact BI.Entails.antisymm (cred_add _ _).1 (cred_add _ _).2

omit [FloatOps F] in
theorem cred_due (c : Dev nD) : (cred (due c) : sProp 𝕄) = credits c := by
  unfold due credits
  rw [bigSep_ex (creditOf c), BI.Entails.antisymm (cred_add _ _).1 (cred_add _ _).2, cred_due1, cred_due1]

omit [FloatOps F] in
/-- The launch credit of a device is the credits it waits with. -/
theorem creds (c : Dev nD) : (Pipeline.launchCred O₀ c : sProp 𝕄) ⊢ credits c := by
  rw [← cred_due, cred_cells, bigSep_univ_prod, bigSep_univ_at _ (c : Thread nD τ)]
  unfold Pipeline.launchCred
  iintro H
  isplitl [H]
  · have h : (bigSep Finset.univ fun sm : SemLoc sig => (cred (tallyOn ((c : Thread nD τ), sm) (launchCredit (Pipeline.owing O₀) 0 ((c : Thread nD τ), sm))) : sProp 𝕄))
        = bigSep Finset.univ fun sm : SemLoc sig => cred (tallyOn ((c : Thread nD τ), sm) (due c ((c : Thread nD τ), sm))) :=
      bigSep_congr fun sm _ => by rw [launch_due c sm]
    iapply (Entails.of_eq h); iexact H
  · iapply (BI.bigSep_intro_persistent (R := (iprop(emp) : sProp 𝕄)) fun t ht => BI.bigSep_intro_persistent (R := (iprop(emp) : sProp 𝕄)) fun sm _ => by
      rw [due_off (Finset.ne_of_mem_erase ht), tallyOn_zero, cred_zero])
    iempintro

/-! ## The tokens -/

/-- The duties on a device's own cells: one round of each ready cell, fifteen of the send and of the receive cell. -/
def dutyEmb : Ex ⊕ Ex ⊕ Ex ↪ OwnK × ℕ × Unit where
  toFun
    | .inl e => (iReady e.1 e.2.val e.2.isLt, 0, ())
    | .inr (.inl e) => (iSend e.1, e.2.val, ())
    | .inr (.inr e) => (iRecv e.1, e.2.val, ())
  inj' := by decide +kernel
abbrev duties : Dev nD → Finset (OwnK × ℕ × Unit) := fun _ => Finset.univ.map dutyEmb

/-- The tokens of one exchange on a device's own cells, -/
def tok1 (c : Dev nD) (e : Ex) : sProp 𝕄 :=
  iprop(dutyTok ER (readyCell c e.1 e.2.val) 0 () ∗ dutyTok ER (sendCell c e.1) e.2.val () ∗ dutyTok ER (recvCell c e.1) e.2.val ())
/-- and of all. -/
def toks (c : Dev nD) : sProp 𝕄 := bigSep Finset.univ fun e : Ex => tok1 c e

omit [FloatOps F] in
theorem toks_eq (c : Dev nD) :
    (bigSep (duties c) fun x => (dutyTok ER ((c : Thread nD τ), osem x.1) x.2.1 x.2.2 : sProp 𝕄)) = toks c := by
  rw [bigSep_map, bigSep_univ_sum, bigSep_univ_sum]
  unfold toks tok1
  rw [bigSep_sep', bigSep_sep']
  have hr : (bigSep Finset.univ fun e : Ex => (dutyTok ER ((c : Thread nD τ), osem (dutyEmb (.inl e)).1) (dutyEmb (.inl e)).2.1 (dutyEmb (.inl e)).2.2 : sProp 𝕄))
      = bigSep Finset.univ fun e : Ex => dutyTok ER (readyCell c e.1 e.2.val) 0 () :=
    bigSep_congr fun e _ => by
      show (dutyTok ER ((c : Thread nD τ), osem (iReady e.1 e.2.val e.2.isLt)) 0 () : sProp 𝕄) = _
      rw [osem_ready]
  rw [hr]; rfl

omit [FloatOps F] in
/-- Over devices and exchanges, in either order. -/
theorem bigSep_swap (Ψ : Dev nD → Ex → sProp 𝕄) :
    (bigSep Finset.univ fun c : Dev nD => bigSep Finset.univ fun e : Ex => Ψ c e) = bigSep Finset.univ fun e : Ex => bigSep Finset.univ fun c : Dev nD => Ψ c e := by
  rw [← bigSep_univ_prod (fun x : Dev nD × Ex => Ψ x.1 x.2), ← bigSep_univ_prod (fun x : Ex × Dev nD => Ψ x.2 x.1),
    bigSep_univ_equiv (Equiv.prodComm Ex (Dev nD))]
  rfl

omit [FloatOps F] in
/-- Each exchange's ready and receive tokens change hands within the pairs of the exchange. -/
theorem toks_around :
    (bigSep Finset.univ fun c : Dev nD => (toks c : sProp 𝕄)) ⊢ bigSep Finset.univ fun c : Dev nD => bigSep Finset.univ fun e : Ex => payTok c e.1 e.2.val := by
  unfold toks
  rw [bigSep_swap, bigSep_swap fun (c : Dev nD) (e : Ex) => payTok c e.1 e.2.val]
  refine bigSep_mono fun e _ => ?_
  unfold tok1 payTok
  rw [bigSep_sep', bigSep_sep', bigSep_sep', bigSep_sep',
    bigSep_univ_equiv (prtE e.2.val) (fun c : Dev nD => (dutyTok ER (readyCell c e.1 e.2.val) 0 () : sProp 𝕄)),
    bigSep_univ_equiv (prtE e.2.val) (fun c : Dev nD => (dutyTok ER (recvCell c e.1) e.2.val () : sProp 𝕄))]
  exact BI.Entails.refl _

/-! ## The cells allocated -/

theorem ownSemFacts : Pipeline.OwnSemFacts cfg0.spec osem := by decide +kernel

/-- What the launch element deals device `c`, -/
def G (c : Dev nD) : sProp 𝕄 := iprop(Pipeline.ownGhost cfgs (0 : Fin 1) ownSemFacts ER (exRd m ρ) c ∗ toks c)
/-- and what the allocation makes of it. -/
def G' (c : Dev nD) : sProp 𝕄 := iprop(∃ K, records m ρ K ∗ linear c)

omit [FloatOps F] in
/-- A persistent assertion beside a family serves every member. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- One device's cells allocated. -/
theorem core_alloc (c : Dev nD) :
    iprop(Pipeline.ownSems0 osem c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  rw [Pipeline.ownGhost_eq]
  iintro ⟨Hos, ⟨Hst, Hat⟩, Htok⟩
  imod (Pipeline.ownCells_alloc cfgs (0 : Fin 1) ownSemFacts ER (exRd m ρ) c) $$ [Hos Hst] with Hinv
  · isplitl [Hos] <;> iassumption
  imodintro
  isplitl [Hinv]; · iexact Hinv
  isplitl [Hat]; · iexact Hat
  iexact Htok

/-- One device's part of what all have allocated. -/
theorem part_intro (K : Dev nD × OwnK → ℕ) (c : Dev nD) : iprop(records m ρ K ∗ linear c) ⊢ G' m ρ c := by
  unfold G'; iintro H; iexists K; iexact H

/-- All of it regrouped, the records copied to every device and the tokens carried to who pays. -/
theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × OwnK => iprop(∃ κ : ℕ, cellInv ER (exRd m ρ) κ (kcell ck))),
    bigSep_congr (s := Finset.univ) (fun (c : Dev nD) _ => bigSep_sep' Finset.univ (fun k : OwnK => (atPos ER (kcell (c, k)) 0 ∅ 0 : sProp 𝕄)) (fun k => reached ER (kcell (c, k)) 0)),
    bigSep_sep', ← bigSep_univ_prod (fun ck : Dev nD × OwnK => (reached ER (kcell ck) 0 : sProp 𝕄))]
  iintro ⟨HI, ⟨Hat, #HR⟩, Htok⟩
  ihave HK := (BI.bigSep_exists_pi Finset.univ (fun (ck : Dev nD × OwnK) (κ : ℕ) => (cellInv ER (exRd m ρ) κ (kcell ck) : sProp 𝕄))) $$ HI
  icases HK with ⟨%K, #HI⟩
  ihave Htk := (toks_around (F := F)) $$ Htok
  iapply (bigSep_beside (R := records m ρ K) fun c _ => part_intro m ρ K c)
  isplitr
  · unfold records; isplitl; · iexact HI
    iexact HR
  · iapply (Entails.of_eq (bigSep_sep' Finset.univ (fun c : Dev nD => bigSep Finset.univ fun k : OwnK => (atPos ER (kcell (c, k)) 0 ∅ 0 : sProp 𝕄))
        (fun c : Dev nD => bigSep Finset.univ fun e : Ex => payTok c e.1 e.2.val)).symm)
    isplitl [Hat]; · iexact Hat
    iexact Htk

/-- The allocation across all devices. -/
theorem glob : (bigSep Finset.univ fun c => iprop(Pipeline.ownSems0 osem c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-- The launch element: the pipeline's staging cells and the kernel's own. -/
def u₀ : UU :=
  (initOf (Pipeline.cells cfgs cellOf_inj) (Pipeline.launchToks cfgs cellOf_inj),
    initOf (Pipeline.ownCells cfgs (0 : Fin 1) ownSemFacts) (Pipeline.ownToksOf cfgs (0 : Fin 1) ownSemFacts duties))

omit [FloatOps F] in
theorem ownU_split (a b : UR) : (ownU (a, b) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op b)))

end Cert.Proof.KernelIdeal

end
-- ==== Proof.KernelIdeal.Run.lean ====
/-
  The run: from any memory with zero counters, every weakly fair execution of the program on the thirty-two devices
  terminates, with each device's arrays at the contents the body computes and every counter at zero.
-/
module

public import proofs.«01_k».proof.Proof.KernelIdeal.Launch
public import Idealize.ShloMosaic.Lib.Quiescent

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig ℕ (Elt F) ℕ UU ℕ

variable (m : (ℓ : Loc nD τ sig) → Buf (Elt F) ℓ) (ρ : Dev nD → PrngReg)

theorem share_eq (c : Dev nD) (w : Fin cfg0.W) : (dats m ρ 0 c).share w = fullShare := by
  unfold Dat.share; split <;> rfl

/-! ## Into and out of the region -/

omit [FloatOps F] in
theorem scratch_eq (c : Dev nD) :
    (Pipeline.scopedRest (Ix := ℕ) (Name := ℕ) (U := UU) (Lvl := ℕ) (Val := Elt F) cfg0.spec c : sProp 𝕄) ⊢ scratch c := by
  rw [show cfg0.spec = spec0 from rfl, scopedRest0_eq]
  unfold scratch wP rP wM rM
  simp only [owns_whole_eq]
  iintro ⟨⟨%f0, H0⟩, ⟨%f1, H1⟩, ⟨%f2, H2⟩, ⟨%f3, H3⟩⟩
  isplitl [H0]; · iexists f0, f0; isplitr; · (ipureintro; rfl)
                  iexact H0
  isplitl [H1]; · iexists f1, f1; isplitr; · (ipureintro; rfl)
                  iexact H1
  isplitl [H2]; · iexists f2, f2; isplitr; · (ipureintro; rfl)
                  iexact H2
  iexists f3, f3; isplitr; · (ipureintro; rfl)
  iexact H3

omit [FloatOps F] in
theorem scratch_back (c : Dev nD) :
    scratch c ⊢ (Pipeline.scopedRest (Ix := ℕ) (Name := ℕ) (U := UU) (Lvl := ℕ) (Val := Elt F) cfg0.spec c : sProp 𝕄) := by
  rw [show cfg0.spec = spec0 from rfl, scopedRest0_eq]
  unfold scratch wP rP wM rM
  simp only [owns_whole_eq]
  iintro ⟨⟨%g0, %f0, -, H0⟩, ⟨%g1, %f1, -, H1⟩, ⟨%g2, %f2, -, H2⟩, ⟨%g3, %f3, -, H3⟩⟩
  isplitl [H0]; · iexists f0; iexact H0
  isplitl [H1]; · iexists f1; iexact H1
  isplitl [H2]; · iexists f2; iexact H2
  iexists f3; iexact H3

/-- What device `c` takes into the region. -/
theorem start_intro (c : Dev nD) :
    iprop(Pipeline.unscopedRestP Pipeline.Prefetch.none cfg0.spec c (fun b => m ((c : Thread nD τ).loc b)) ∗ unscopedSems0 c ∗ levAts L lv
        ∗ Pipeline.launchCred O₀ c ∗ prngReg c (ρ c) ∗ G' m ρ c)
      ⊢ |={Set.univ}=> iprop(start m ρ c ∗ emp) := by
  iintro ⟨-, -, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_eq (F := F) c); iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl]
  unfold Φ₁
  iintro ⟨Hz, Hr⟩
  isplitr; · iempintro
  isplitl [Hz]; · iexact Hz
  iapply (scratch_back (F := F) c); iexact Hr

/-- All of the launch's debts are above level 0. -/
theorem above_O₀ (c : Dev nD) : Above 0 (O₀ c) := (Above.from 0 c 0 (by decide)).add (Above.from 1 c 0 (by decide))

/-- The staging transfers' waits are below every debt. -/
theorem waits (c : Dev nD) : (levAts L lv : sProp 𝕄) ⊢ Pipeline.cellsWaits cfgs (dats m ρ) 0 0 c :=
  Pipeline.cellsWaits_intro cfgs (dats m ρ) 0 0 c fun w s t =>
    mayWait c _ 0 (by decide) (b := 0) (by
      rw [lv_low _ _ (by fin_cases w <;> fin_cases s <;> decide)]) (by
      rcases t with ⟨_ | _, ht⟩
      · exact above_O₀ c
      · exact Above.zero 0)

/-! ## The run -/

/-- An array's contents after the run. -/
def finalA (c : Dev nD) (w : Fin cfg0.W) : Buf (Elt F) ((cfg0.win w).arr.view.loc (c : Thread nD τ)) := (dats m ρ 0 c).arrAt w cfg0.N

/-- Every array holds those contents. -/
def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (fun r => QC m ρ r ∧ r.2.sem = fun _ => 0) :=
  Pipeline.θ_run_region_owing_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_split _ _) $$ Hu
      icases H with ⟨HP, HX⟩
      imod (Pipeline.fund_own cfgs (0 : Fin 1) ownSemFacts ER (exRd m ρ) (Pipeline.ownToksOf cfgs (0 : Fin 1) ownSemFacts duties)) $$ HX with ⟨Hx, Htok⟩
      ihave Htk := (Entails.of_eq (Pipeline.bigSep_ownToksOf cfgs (0 : Fin 1) ownSemFacts ER duties)) $$ Htok
      imodintro
      isplitl [HP]; · iexact HP
      unfold G; rw [bigSep_sep', ← bigSep_congr (s := Finset.univ) fun (c : Dev nD) _ => toks_eq (F := F) c]
      isplitl [Hx] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h hs => ⟨fun c w => (h c).1 w, sem_eq_zero_of_scoped (by decide) hs⟩)

/-- The argument is what it was. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array's one block is what the body left. -/
theorem finalA_o (c : Dev nD) :
    (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from flush0_1 t0_0, if_pos rfl]
  exact View.read_write_univ _ _

end Cert.Proof.KernelIdeal

end
-- ==== Proof.Bitonic.Network.lean ====
/-
  Facts of the ascending bitonic network on `2 ^ p` positions that the kernel's stages are read by: what one stage leaves
  at a position, in the words the kernel decides it by (the position's bit of the distance and its bit of the level); one
  level as its stages in turn; and that a monotone rearrangement of a vector is the network's result on it.
-/
module

public import Idealize.ShloMosaic.Lib.SortNet.Sorts
public import Idealize.ShloMosaic.Lib.SortNet.Printed
public import Idealize.ShloMosaic.Lib.SortNet.HostSort

@[expose] public section

namespace Cert.Proof.Bitonic

open Idealize.ShloMosaic.SortNet

variable {α : Type*} [LinearOrder α] {p : ℕ}

/-- Where level `l` puts the greater entry first: the runs of positions with bit `l` set. -/
def low (p l : ℕ) (i : Fin (2 ^ p)) : Bool := decide (i.val &&& 2 ^ l = 0) == false

/-- The stage of level `l` at distance `2 ^ s`, on values. -/
abbrev pass (l s : ℕ) (v : Fin (2 ^ p) → α) : Fin (2 ^ p) → α := Network.apply (stage p s (low p l)) v

/-- The first `n` stages of level `l` from distance `2 ^ hi` down, on values. -/
def part (l hi : ℕ) (v : Fin (2 ^ p) → α) : ℕ → Fin (2 ^ p) → α
  | 0 => v
  | n + 1 => pass l (hi - n) (part l hi v n)

/-- What a stage leaves at a position: the smaller of the two values if exactly one holds of "the position's bit `s` is
    set" and "its bit `l` is clear", else the larger. -/
theorem pass_at {l s : ℕ} (hs : s < p) (hsl : s < l) (v : Fin (2 ^ p) → α) (i : Fin (2 ^ p)) :
    pass l s v i = if (decide (i.val &&& 2 ^ s ≠ 0) ^^ decide (i.val &&& 2 ^ l = 0)) = true
      then min (v i) (v (partner p s i)) else max (v i) (v (partner p s i)) := by
  obtain ⟨l, rfl⟩ : ∃ k, l = k + 1 := ⟨l - 1, by omega⟩
  unfold pass
  rw [← stage_upperXor, apply_stage_select hs _ (fun j => upperXor_partner hs _ j (sizeClear_partner hs (by omega) false j)),
    ite_lt_eq_max_min]
  unfold upperXor low
  cases decide (i.val &&& 2 ^ s ≠ 0) <;> cases decide (i.val &&& 2 ^ (l + 1) = 0) <;> rfl

/-- A level is its stages in turn. -/
theorem level_eq (l : ℕ) (v : Fin (2 ^ p) → α) : Network.apply (levelNet p false l) v = part (l + 1) l v (l + 1) := by
  have h : ∀ n, Network.apply (((List.range n).map fun k => l - k).flatMap fun s => stage p s (low p (l + 1))) v
      = part (l + 1) l v n := by
    intro n
    induction n with
    | zero => rfl
    | succ n ih =>
      rw [List.range_succ, List.map_append, List.flatMap_append, Network.apply_append, ih, List.map_cons, List.map_nil,
        List.flatMap_cons, List.flatMap_nil, List.append_nil]
      rfl
  have e : (List.range (l + 1)).reverse = (List.range (l + 1)).map fun k => l - k := by
    rw [List.range_eq_range', List.reverse_range', ← List.range_eq_range']
    refine List.map_congr_left fun k _ => ?_
    omega
  rw [← h]
  unfold levelNet
  rw [e]
  rfl

/-- The levels below `l`, then the first `n` stages of the next. -/
def upTo (l n : ℕ) (v : Fin (2 ^ p) → α) : Fin (2 ^ p) → α := part (l + 1) l (Network.apply (levelsNet p false l) v) n

theorem upTo_succ (l n : ℕ) (v : Fin (2 ^ p) → α) : upTo l (n + 1) v = pass (l + 1) (l - n) (upTo l n v) := rfl

/-- All `l + 1` stages of a level lead to the next. -/
theorem upTo_level (l : ℕ) (v : Fin (2 ^ p) → α) : upTo l (l + 1) v = upTo (l + 1) 0 v := by
  unfold upTo
  rw [← level_eq, levelsNet_succ, Network.apply_append]
  rfl

/-- All `p` levels are the sort. -/
theorem upTo_all (v : Fin (2 ^ p) → α) : upTo p 0 v = Network.apply (sortNet p false) v := rfl

/-- Two monotone rearrangements of a vector are the same. -/
theorem monotone_unique {n : ℕ} (v : Fin n → α) (σ τ : Equiv.Perm (Fin n)) (hσ : Monotone (v ∘ σ)) (hτ : Monotone (v ∘ τ)) :
    v ∘ σ = v ∘ τ := by
  have sorted : ∀ ρ : Equiv.Perm (Fin n), Monotone (v ∘ ρ) → (List.ofFn (v ∘ ρ)).Pairwise (· ≤ ·) := fun ρ h => by
    rw [List.pairwise_ofFn]
    exact fun i j hij => h (le_of_lt hij)
  exact List.ofFn_injective (List.Perm.eq_of_pairwise (le := (· ≤ ·)) (fun a b _ _ h h' => le_antisymm h h') (sorted σ hσ) (sorted τ hτ)
    ((Equiv.Perm.ofFn_comp_perm σ v).trans (Equiv.Perm.ofFn_comp_perm τ v).symm))

/-- A monotone rearrangement of a vector is the sort's result on it. -/
theorem sort_unique (v : Fin (2 ^ p) → α) (σ : Fin (2 ^ p) → Fin (2 ^ p)) (hσ : Function.Bijective σ) (h : Monotone (v ∘ σ)) :
    Network.apply (sortNet p false) v = v ∘ σ := by
  obtain ⟨τ, hτ⟩ := Network.exists_perm (sortNet p false) v
  have hm := sortNet_apply_monotone p v
  rw [hτ] at hm ⊢
  exact monotone_unique v τ (Equiv.ofBijective σ hσ) hm h

end Cert.Proof.Bitonic

end
-- ==== Proof.Bitonic.Reference.lean ====
/-
  The reference's sort, read. On the extended reals its comparator is the order's `<`, so its sort of a 65536-row array
  along the rows is, in each column, the bitonic network's result: both rearrange the column, and both leave it monotone.
-/
module

public import Idealize.ShloMosaic.PureOps.Ideal.Laws
public import Idealize.ShloMosaic.Lib.SortFacts
public import Idealize.ShloMosaic.Lib.Pointwise.Index
public import proofs.«01_k».proof.Proof.Bitonic.Network
public import proofs.«01_k».proof.Proof.Gen.ReferenceIdeal

@[expose] public section

noncomputable section

namespace Cert.Proof.Bitonic

open Cert.ReferenceIdeal Cert.ReferenceIdeal.Gen
open Idealize.ShloMosaic
open Idealize.ShloMosaic.SortNet

/-- The comparator is the order's `<`. -/
theorem comparator_eq (a b : EReal) : (comparator_f32_d0 (F := Ideal) a b == 1#1) = decide (a < b) := by
  have key : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    have h1 : Ideal.cmp .une x x = BitVec.ofBool false := by
      show BitVec.ofBool (decide (x ≠ x)) = _
      rw [decide_eq_false (fun h => h rfl)]
    rw [h1, select_ofBool, if_neg (by decide)]
    show Scalar.select (BitVec.ofBool (decide (x = Ideal.ofBits .f32 0x00000000#32))) _ _ = _
    rw [select_ofBool]
    by_cases h : x = Ideal.ofBits .f32 0x00000000#32
    · rw [if_pos (decide_eq_true h)]; exact h.symm
    · rw [if_neg (by simpa using h)]
  have e : comparator_f32_d0 (F := Ideal) a b = BitVec.ofBool (decide (a < b)) :=
    (congrArg₂ (Ideal.cmp .olt) (key a) (key b)).trans rfl
  rw [e]
  cases decide (a < b) <;> rfl

theorem along_row (g k : Fin 65536) (q : Fin 512) :
    (ix2 g q : S65536x512.Idx).along (0 : Fin 2) k = ix2 k q := by
  funext a
  match a with
  | ⟨0, _⟩ => rfl
  | ⟨1, _⟩ => rfl

/-- The reference's sort, in a column, is the network's. -/
theorem sort_read (X : S65536x512.Idx → EReal) (g : Fin 65536) (q : Fin 512) :
    Host.sort S65536x512 0 (comparator_f32_d0 (F := Ideal)) X (ix2 g q)
      = Network.apply (sortNet 16 false) (fun i : Fin (2 ^ 16) => X (ix2 (n0 := 65536) i q)) g := by
  have hu := sort_unique (p := 16) (fun i : Fin (2 ^ 16) => X (ix2 (n0 := 65536) i q))
    (sortedFrom (n := 65536) fun k k' => decide (X (ix2 k q) < X (ix2 k' q)))
    ⟨sortedFrom_injective _, sortedFrom_surjective _⟩ (by
      intro i j hij
      rcases eq_or_lt_of_le hij with h | h
      · rw [h]
      · have := sortedFrom_noInversion (n := 65536) (fun k k' => decide (X (ix2 k q) < X (ix2 k' q)))
          (fun k k' => decide (X (ix2 k q) < X (ix2 k' q)))
          (fun a b hab => decide_eq_false (not_lt_of_ge (le_of_lt (of_decide_eq_true hab)))) (fun _ _ h => h)
          (fun a b c hab hbc => decide_eq_false (not_lt_of_ge (le_trans (not_lt.mp (of_decide_eq_false hbc)) (not_lt.mp (of_decide_eq_false hab)))))
          i j h
        exact not_lt.mp (of_decide_eq_false this))
  rw [hu]
  unfold Host.sort
  rw [dif_pos (show (0 : ℕ) < S65536x512.rank by decide)]
  simp only [comparator_eq]
  show X ((ix2 g q : S65536x512.Idx).along (0 : Fin 2) (sortedFrom (n := 65536) (fun k k' =>
    decide (X ((ix2 g q : S65536x512.Idx).along (0 : Fin 2) k) < X ((ix2 g q : S65536x512.Idx).along (0 : Fin 2) k'))) g)) = _
  simp only [along_row]
  rfl

end Cert.Proof.Bitonic

end
-- ==== Proof.KernelIdeal.Words.lean ====
/-
  What the kernel's flags say at a row. Device `d`'s row `r` is position `d * 2048 + r` of the whole column (`gpos`), and
  the printed flags are that position's bits: the distance's bit set (`bit_at`), the level's bit clear (`asc_at`).
-/
module

public import Idealize.ShloMosaic.Lib.SortNet.Printed
public import Idealize.ShloMosaic.Lib.Pipeline.Value
public import proofs.«01_k».proof.Proof.KernelIdeal.Program

@[expose] public section

noncomputable section

namespace Cert.Proof.KernelIdeal

open Cert.KernelIdeal Cert.KernelIdeal.Gen
open Idealize.ShloMosaic Idealize.ShloMosaic.TcCoe Idealize.SL.Sem
open Idealize.ShloMosaic.SortNet

/-- The position, in a whole column, of device `d`'s row `r`. -/
def gpos (d : Dev nD) (r : Fin 2048) : Fin (2 ^ 16) := chunkPos (P := 16) (p := 11) (by decide) d r

theorem gpos_val (d : Dev nD) (r : Fin 2048) : (gpos d r).val = d.val * 2048 + r.val := rfl

theorem exists_gpos (i : Fin (2 ^ 16)) : ∃ d r, i = gpos d r :=
  ⟨⟨i.val / 2048, by have := i.isLt; simp only [nD]; omega⟩, ⟨i.val % 2048, Nat.mod_lt _ (by decide)⟩,
    Fin.ext (by rw [gpos_val]; show i.val = i.val / 2048 * 2048 + i.val % 2048; omega)⟩

theorem gpos_lt (d : Dev nD) (r : Fin 2048) : (gpos d r).val < 65536 := (gpos d r).isLt

theorem base_word : ∀ d : Dev nD, Scalar.muli (Scalar.remsi (Scalar.divsi (Dev.word d) 1#32) 32#32) 2048#32
    = BitVec.ofNat 32 (d.val * 2048) := by decide +kernel

/-- A row's position, as the kernel computes it. -/
theorem pos_word (d : Dev nD) (r : Fin 2048) : posOf d (ix2 r (0 : Fin 1)) = BitVec.ofNat 32 (gpos d r).val := by
  show Scalar.muli (Scalar.remsi (Scalar.divsi (Dev.word d) 1#32) 32#32) 2048#32
    + BitVec.ofNat 32 (0 * 2048 + r.val) = _
  rw [base_word, gpos_val, Nat.zero_mul, Nat.zero_add, ← BitVec.ofNat_add]

/-- The distance's flag: the position's bit `s` is set. -/
theorem bit_at (d : Dev nD) (r : Fin 2048) (x : BitVec 32) {s : ℕ} (hx : x.toNat = 2 ^ s) :
    bitAt (posOf d) x (ix2 r (0 : Fin 1)) = BitVec.ofBool (decide ((gpos d r).val &&& 2 ^ s ≠ 0)) := by
  have hi : (gpos d r).val < 2 ^ 32 := lt_trans (gpos_lt d r) (by decide)
  show BitVec.ofBool (IntOp.andi (posOf d (ix2 r (0 : Fin 1))) x != 0#32) = _
  rw [pos_word]
  congr 1
  rw [Bool.eq_iff_iff, bne_iff_ne, decide_eq_true_eq, Ne, and_distance_eq_zero_iff hi x hx]

/-- The level's flag: the position's bit `n` is clear. -/
theorem asc_at (d : Dev nD) (r : Fin 2048) (l : BitVec 32) {n : ℕ} (hl : l.toNat = n) (hn : n < 32) :
    ascAt (posOf d) l (ix2 r (0 : Fin 1)) = BitVec.ofBool (decide ((gpos d r).val &&& 2 ^ n = 0)) := by
  have hg := gpos_lt d r
  show BitVec.ofBool (IntOp.andi (IntOp.shrsi .vector (posOf d (ix2 r (0 : Fin 1))) l) 1#32 == 0#32) = _
  rw [pos_word]
  congr 1
  rw [Bool.eq_iff_iff, beq_iff_eq, decide_eq_true_eq, and_two_pow_eq_zero_iff_testBit]
  unfold IntOp.shrsi IntOp.andi
  rw [if_pos (by omega), BitVec.sshiftRight_eq', hl, BitVec.sshiftRight_eq_of_msb_false
    (BitVec.msb_eq_false_iff_two_mul_lt.mpr (by rw [BitVec.toNat_ofNat, Nat.mod_eq_of_lt (by omega)]; omega)),
    ← BitVec.toNat_inj, BitVec.toNat_and, BitVec.toNat_ushiftRight, BitVec.toNat_ofNat, Nat.mod_eq_of_lt (by omega)]
  show (gpos d r).val >>> n &&& 1 = 0 ↔ _
  rw [Nat.testBit, Nat.and_comm 1, bne_eq_false_iff_eq]

/-- A row's flag is read at every column. -/
theorem wide_at (b : IVec S2048x1 1) (r : Fin 2048) (q : Fin 256) : wide b (ix2 r q) = b (ix2 r (0 : Fin 1)) := by
  rw [wide, shapeCast_self]
  unfold broadcastTo
  congr 1
  funext a
  match a with
  | ⟨0, _⟩ => rfl
  | ⟨1, _⟩ => rfl

/-- The flag that decides a row's compare-exchange. -/
theorem keep_at (d : Dev nD) (r : Fin 2048) (q : Fin 256) (l x : BitVec 32) {s n : ℕ} (hx : x.toNat = 2 ^ s) (hl : l.toNat = n)
    (hn : n < 32) : wide (xori (bitAt (posOf d) x) (ascAt (posOf d) l)) (ix2 r q)
      = BitVec.ofBool (decide ((gpos d r).val &&& 2 ^ s ≠ 0) ^^ decide ((gpos d r).val &&& 2 ^ n = 0)) := by
  rw [wide_at]
  exact xori_apply_ofBool _ _ _ _ _ (bit_at d r x hx) (asc_at d r l hl hn)

end Cert.Proof.KernelIdeal

end
-- ==== Proof.KernelIdeal.Column.lean ====
/-
  The kernel's stages on a whole column. The 32 devices' buffers hold, in each of their columns `q`, one column of the
  whole array (`col`). A compare-exchange against the partners' values is one stage of the network on that column
  (`exch_col`); inside a device the partners' values come by the two rotations (`within_at`), across devices from the
  exchange's partner (`across_at`). So the printed loops are the network's levels, and the fifteen exchanges with the
  levels they close are the rest of them: the working buffers end with the column sorted (`wAt_last`).
-/
module

public import Idealize.ShloMosaic.PureOps.Ideal
public import proofs.«01_k».proof.Proof.Bitonic.Network
public import proofs.«01_k».proof.Proof.KernelIdeal.Words
public import proofs.«01_k».proof.Proof.KernelIdeal.Protocol

@[expose] public section

noncomputable section

namespace Cert.Proof.KernelIdeal

open Cert.KernelIdeal Cert.KernelIdeal.Gen
open Idealize.ShloMosaic Idealize.ShloMosaic.TcCoe Idealize.SL.Sem
open Idealize.ShloMosaic.SortNet
open Cert.Proof.Bitonic

/-- Column `q` of the devices' buffers, as one vector. -/
def col (W : Dev nD → V Ideal) (q : Fin 256) (i : Fin (2 ^ 16)) : EReal :=
  W ⟨i.val / 2048, by have := i.isLt; simp only [nD]; omega⟩ (ix2 (⟨i.val % 2048, Nat.mod_lt _ (by decide)⟩ : Fin 2048) q)

theorem col_gpos (W : Dev nD → V Ideal) (q : Fin 256) (d : Dev nD) (r : Fin 2048) : col W q (gpos d r) = W d (ix2 r q) := by
  have hd : (⟨(gpos d r).val / 2048, by have := (gpos d r).isLt; simp only [nD]; omega⟩ : Dev nD) = d :=
    Fin.ext (by show (gpos d r).val / 2048 = d.val; rw [gpos_val]; have := r.isLt; omega)
  have hr : (⟨(gpos d r).val % 2048, Nat.mod_lt _ (by decide)⟩ : Fin 2048) = r :=
    Fin.ext (by show (gpos d r).val % 2048 = r.val; rw [gpos_val]; have := r.isLt; omega)
  unfold col
  rw [hd, hr]

/-! ## One stage -/

/-- A compare-exchange against the partners' values is one stage. -/
theorem exch_col (Z R : Dev nD → V Ideal) (q : Fin 256) (l x : BitVec 32) {n s : ℕ} (hx : x.toNat = 2 ^ s) (hl : l.toNat = n)
    (hs : s < 16) (hsn : s < n) (hn : n < 32)
    (hR : ∀ d r, R d (ix2 r q) = col Z q (partner 16 s (gpos d r))) :
    col (fun d => exch (F := Ideal) (posOf d) l x (Z d) (R d)) q = pass n s (col Z q) := by
  funext i
  obtain ⟨d, r, rfl⟩ := exists_gpos i
  rw [pass_at hs hsn, col_gpos, col_gpos, ← hR]
  unfold exch
  rw [shapeCast_self]
  show Scalar.select (wide (xori (bitAt (posOf d) x) (ascAt (posOf d) l)) (ix2 r q)) (min (Z d (ix2 r q)) (R d (ix2 r q)))
    (max (Z d (ix2 r q)) (R d (ix2 r q))) = _
  rw [keep_at d r q l x hx hl hn, select_ofBool]

/-- Column `q` of a device's buffer. -/
def rows (q : Fin 256) : SortNet.Column S2048x256 0 11 where
  col i := ix2 (n0 := 2048) (n1 := 256) i q
  size_eq := rfl
  coord _ := rfl
  other i i' b hb := by
    match b, hb with
    | ⟨0, _⟩, hb => exact absurd rfl hb
    | ⟨1, _⟩, _ => rfl

/-- Inside a device the rotations bring every row its partner's value. -/
theorem within_at (Z : Dev nD → V Ideal) (q : Fin 256) (x : BitVec 32) {s : ℕ} (hx : x.toNat = 2 ^ s) (hs : s < 11) (d : Dev nD)
    (r : Fin 2048) : within (F := Ideal) (posOf d) x (Z d) (ix2 r q) = col Z q (partner 16 s (gpos d r)) := by
  have hp : partner 16 s (gpos d r) = gpos d (partner 11 s r) := partner_chunkPos (P := 16) (p := 11) (by decide) hs d r
  have hb : (gpos d r).val &&& 2 ^ s = r.val &&& 2 ^ s := chunkPos_and (P := 16) (p := 11) (by decide) hs d r
  rw [hp, col_gpos]
  show Scalar.select (wide (bitAt (posOf d) x) (ix2 r q)) (dynamicRotate 0 x none (Z d) rotates_S2048x256_d0 (ix2 r q))
    (dynamicRotate 0 (Scalar.subi 2048#32 x) none (Z d) rotates_S2048x256_d0 (ix2 r q)) = _
  rw [wide_at, bit_at d r x hx, select_ofBool, hb]
  by_cases h : r.val &&& 2 ^ s = 0
  · rw [if_neg (by simp [h])]
    have hlt : 2 ^ s < 2 ^ 11 := Nat.pow_lt_pow_right (by decide) hs
    refine (rows q).rotate_of_clear hs _ ?_ (Z d) _ r h
    show (2048#32 - x).toNat = _
    rw [BitVec.toNat_sub, hx, BitVec.toNat_ofNat]
    omega
  · rw [if_pos (by simpa using h)]
    exact (rows q).rotate_of_set hs x hx (Z d) _ r h

theorem local_col (Z : Dev nD → V Ideal) (q : Fin 256) (l x : BitVec 32) {n s : ℕ} (hx : x.toNat = 2 ^ s) (hl : l.toNat = n)
    (hs : s < 11) (hsn : s < n) (hn : n < 32) :
    col (fun d => local1 (F := Ideal) (posOf d) l x (Z d)) q = pass n s (col Z q) :=
  exch_col Z _ q l x hx hl (by omega) hsn hn fun d r => within_at Z q x hx hs d r

/-! ## The printed loops -/

theorem level_word : ∀ t < 11, (Scf.iv 1#32 1#32 t).toNat = t + 1 := by decide

theorem stage_word : ∀ t < 11, ∀ n < t + 1,
    (Scalar.shli 1#32 (Scalar.subi (Scalar.subi (Scf.iv 1#32 1#32 t) 1#32) (Scf.iv 0#32 1#32 n))).toNat = 2 ^ (t - n) := by decide +kernel

theorem merge_word : ∀ n < 11, (Scalar.shli 1#32 (Scalar.subi 10#32 (Scf.iv 0#32 1#32 n))).toNat = 2 ^ (10 - n) := by decide +kernel

/-- A level of the local sort. -/
theorem stages_col (Z : Dev nD → V Ideal) (q : Fin 256) {t : ℕ} (ht : t < 11) : ∀ n ≤ t + 1,
    col (fun d => stagesV (F := Ideal) (posOf d) t (Z d) n) q = part (t + 1) t (col Z q) n
  | 0, _ => rfl
  | n + 1, hn => by
    have := local_col (fun d => stagesV (F := Ideal) (posOf d) t (Z d) n) q _ _ (stage_word t ht n (by omega)) (level_word t ht) (by omega) (by omega)
      (by omega)
    rw [stages_col Z q ht n (by omega)] at this
    exact this

/-- The local sort is the levels below the eleventh. -/
theorem levels_col (Z : Dev nD → V Ideal) (q : Fin 256) : ∀ n ≤ 11,
    col (fun d => levelsV (F := Ideal) (posOf d) (Z d) n) q = upTo n 0 (col Z q)
  | 0, _ => rfl
  | n + 1, hn => by
    have := stages_col (fun d => levelsV (F := Ideal) (posOf d) (Z d) n) q (t := n) (by omega) (n + 1) le_rfl
    rw [levels_col Z q n (by omega)] at this
    rw [← upTo_level]
    exact this

/-- The stages inside a device that end level `l + 1`. -/
theorem merge_col (Z : Dev nD → V Ideal) (q : Fin 256) (lw : BitVec 32) {l m : ℕ} (hl : lw.toNat = l + 1) (hm : l = m + 10)
    (hl16 : l < 16) (v : Fin (2 ^ 16) → EReal) (hZ : col Z q = upTo l m v) : ∀ n ≤ 11,
    col (fun d => mergeV (F := Ideal) (posOf d) lw (Z d) n) q = upTo l (m + n) v
  | 0, _ => hZ
  | n + 1, hn => by
    have := local_col (fun d => mergeV (F := Ideal) (posOf d) lw (Z d) n) q lw _ (merge_word n (by omega)) hl (by omega) (by omega) (by omega)
    rw [merge_col Z q lw hl hm hl16 v hZ n (by omega), show 10 - n = l - (m + n) by omega] at this
    exact this

/-! ## The exchanges -/

variable (m : (ℓ : Loc nD τ sig) → Buf (Elt Ideal) ℓ) (ρ : Dev nD → PrngReg)

/-- The network's level and stage that exchange `k` is: level `lvlN k + 1`, distance `2 ^ (lvlN k - offN k)`. -/
def lvlN : ℕ → ℕ
  | 0 => 11 | 1 => 12 | 2 => 12 | 3 => 13 | 4 => 13 | 5 => 13 | 6 => 14 | 7 => 14 | 8 => 14 | 9 => 14 | 10 => 15 | 11 => 15 | 12 => 15
  | 13 => 15 | 14 => 15 | _ => 16
def offN : ℕ → ℕ
  | 0 => 0 | 1 => 0 | 2 => 1 | 3 => 0 | 4 => 1 | 5 => 2 | 6 => 0 | 7 => 1 | 8 => 2 | 9 => 3 | 10 => 0 | 11 => 1 | 12 => 2 | 13 => 3
  | 14 => 4 | _ => 0

theorem table_bounds : ∀ k < 15, 11 ≤ lvlN k - offN k ∧ lvlN k < 16 ∧ (lvl k).toNat = lvlN k + 1
    ∧ (dist k).toNat = 2 ^ (lvlN k - offN k) := by decide +kernel

theorem table_prt : ∀ k < 15, ∀ d : Dev nD, prt k d = partner 5 (lvlN k - offN k - 11) d := by decide +kernel

theorem table_next : ∀ k < 15, if closes k = true then lvlN k - offN k = 11 ∧ lvlN (k + 1) = lvlN k + 1 ∧ offN (k + 1) = 0
    else lvlN (k + 1) = lvlN k ∧ offN (k + 1) = offN k + 1 := by decide +kernel

/-- Across devices the exchange's partner has every row's partner. -/
theorem across_at (Z : Dev nD → V Ideal) (q : Fin 256) {k : ℕ} (hk : k < 15) (d : Dev nD) (r : Fin 2048) :
    Z (prt k d) (ix2 r q) = col Z q (partner 16 (lvlN k - offN k) (gpos d r)) := by
  obtain ⟨h11, h16, -, -⟩ := table_bounds k hk
  have hp : partner 16 (lvlN k - offN k) (gpos d r) = gpos (partner 5 (lvlN k - offN k - 11) d) r :=
    partner_chunkPos_high (P := 16) (p := 11) (by decide) h11 (by omega) d r
  rw [hp, col_gpos, ← table_prt k hk]

/-- The exchange, on the column. -/
theorem exchange_col (Z : Dev nD → V Ideal) (q : Fin 256) {k : ℕ} (hk : k < 15) :
    col (fun d => exch (F := Ideal) (posOf d) (lvl k) (dist k) (Z d) (Z (prt k d))) q = pass (lvlN k + 1) (lvlN k - offN k) (col Z q) := by
  obtain ⟨h11, h16, hl, hx⟩ := table_bounds k hk
  exact exch_col Z _ q _ _ hx hl (by omega) (by omega) (by omega) fun d r => across_at Z q hk d r

/-- The column before exchange `k`: the network as far as the exchange's stage. -/
theorem wAt_col (ch : Fin 2) (q : Fin 256) : ∀ k ≤ 15, col (wAt m ρ ch k) q = upTo (lvlN k) (offN k) (col (chunk m ρ ch) q)
  | 0, _ => levels_col (chunk m ρ ch) q 11 le_rfl
  | k + 1, hk => by
    have hk' : k < 15 := by omega
    obtain ⟨h11, h16, hl, hx⟩ := table_bounds k hk'
    have h := exchange_col (wAt m ρ ch k) q hk'
    rw [wAt_col ch q k (by omega), ← upTo_succ] at h
    have hn := table_next k hk'
    show col (fun d => nextV (F := Ideal) d k (wAt m ρ ch k d) (wAt m ρ ch k (prt k d))) q = _
    unfold nextV
    cases hc : closes k
    · rw [hc] at hn
      obtain ⟨h1, h2⟩ := hn
      rw [h1, h2]
      exact h
    · rw [hc] at hn
      obtain ⟨h0, h1, h2⟩ := hn
      rw [h1, h2, ← upTo_level]
      have := merge_col _ q (lvl k) hl (m := offN k + 1) (by omega) h16 _ h 11 le_rfl
      rw [show offN k + 1 + 11 = lvlN k + 1 by omega] at this
      exact this

/-- The working buffers end with every column sorted. -/
theorem wAt_last (ch : Fin 2) (q : Fin 256) :
    col (wAt m ρ ch 15) q = Network.apply (sortNet 16 false) (col (chunk m ρ ch) q) :=
  wAt_col m ρ ch q 15 le_rfl

end Cert.Proof.KernelIdeal

end
-- ==== Proof.KernelIdeal.Value.lean ====
/-
  The kernel's result is the reference's, block by block. Column `q` of chunk `ch` is column `256 * ch + q` of the whole
  array: the devices' chunks hold it, cut into 32 runs of 2048 rows (`chunk_col`); the working buffers end with it sorted;
  and the reference's sort of it is the same vector (`sort_read`). Then the claim about the two programs (`algebraic`).
-/
module

public import proofs.«01_k».proof.Defs
public import Idealize.ShloMosaic.Lib.Layout
public import proofs.«01_k».proof.Proof.Gen.ReferenceIdeal.Run
public import proofs.«01_k».proof.Proof.Bitonic.Reference
public import proofs.«01_k».proof.Proof.KernelIdeal.Column
public import proofs.«01_k».proof.Proof.KernelIdeal.Body
public import proofs.«01_k».proof.Proof.KernelIdeal.Run

@[expose] public section

noncomputable section

namespace Cert.Proof.KernelIdeal

open Cert.KernelIdeal Cert.KernelIdeal.Gen
open Idealize.ShloMosaic Idealize.ShloMosaic.TcCoe Idealize.SL.Sem
open Idealize.ShloMosaic.SortNet
open Cert.Proof.Bitonic

variable (m : (ℓ : Loc nD τ sig) → Buf (Elt Ideal) ℓ) (ρ : Dev nD → PrngReg)

/-- The argument window's one block is the whole argument. -/
theorem xstg_eq (c : Dev nD) : xstg m ρ c = m ((c : Thread nD τ).loc main_arg0) :=
  Memref.read_access_unit_zero (Elt Ideal) main_arg0 (funext fun a => by fin_cases a <;> decide) (fun a => by fin_cases a <;> decide) _

/-- The result window's one block is the whole result. -/
theorem final_eq (c : Dev nD) : finalA m ρ c (1 : Fin 2) = outAt m ρ c :=
  (Memref.read_access_unit_zero (Elt Ideal) main_v1 (funext fun a => by fin_cases a <;> decide) (fun a => by fin_cases a <;> decide) _).symm.trans
    (finalA_o m ρ c)

/-- A chunk's column, in the whole array. -/
def wideCol (ch : Fin 2) (q : Fin 256) : Fin 512 := ⟨256 * ch.val + q.val, by have := ch.isLt; have := q.isLt; omega⟩

theorem chunk_index (ch : Fin 2) (r : Fin 2048) (q : Fin 256) : (rX ch).emb (ix2 r q) = (ix2 r (wideCol ch q) : S2048x512.Idx) := by
  funext a
  match a with
  | ⟨0, _⟩ => exact Fin.ext (show 0 + 1 * r.val = r.val by omega)
  | ⟨1, _⟩ => exact Fin.ext (show 256 * ch.val + 1 * q.val = 256 * ch.val + q.val by omega)

/-- An element of a device's chunk. -/
theorem chunk_at (ch : Fin 2) (c : Dev nD) (r : Fin 2048) (q : Fin 256) :
    chunk m ρ ch c (ix2 r q) = m ((c : Thread nD τ).loc main_arg0) (ix2 r (wideCol ch q) : S2048x512.Idx) := by
  unfold chunk
  rw [shapeCast_self, xstg_eq, ← chunk_index]
  exact congrFun (shapeCast_self (s := S2048x256) _ _) _

/-- An element of block `c` of the whole array. -/
theorem block_at {α : Type} (X : Cert.ReferenceIdeal.S65536x512.Idx → α) (c : Dev nD) (r : Fin 2048) (q : Fin 512) :
    Layout.block ⟨2, ![2048, 512]⟩ ⟨2, ![65536, 512]⟩ 0 32 c X (by decide) (ix2 r q) = X (ix2 (n0 := 65536) (gpos c r) q) := by
  rw [Layout.block_apply]
  congr 1
  funext a
  match a with
  | ⟨0, _⟩ => rfl
  | ⟨1, _⟩ => rfl

/-- The devices' chunks hold the whole array's columns. -/
theorem chunk_col (X : Cert.ReferenceIdeal.S65536x512.Idx → EReal)
    (hX : ∀ c : Dev nD, m ((c : Thread nD τ).loc main_arg0) = Layout.block ⟨2, ![2048, 512]⟩ ⟨2, ![65536, 512]⟩ 0 32 c X)
    (ch : Fin 2) (q : Fin 256) : col (chunk m ρ ch) q = fun i => X (ix2 (n0 := 65536) i (wideCol ch q)) := by
  funext i
  obtain ⟨d, r, rfl⟩ := exists_gpos i
  rw [col_gpos, chunk_at, hX]
  exact block_at X d r _

/-- The kernel's result on device `c` is block `c` of the reference's sort. -/
theorem out_eq (X : Cert.ReferenceIdeal.S65536x512.Idx → EReal)
    (hX : ∀ c : Dev nD, m ((c : Thread nD τ).loc main_arg0) = Layout.block ⟨2, ![2048, 512]⟩ ⟨2, ![65536, 512]⟩ 0 32 c X)
    (c : Dev nD) : outAt m ρ c = Layout.block ⟨2, ![2048, 512]⟩ ⟨2, ![65536, 512]⟩ 0 32 c
      (Host.sort Cert.ReferenceIdeal.S65536x512 0 (Cert.ReferenceIdeal.comparator_f32_d0 (F := Ideal)) X) := by
  funext i
  obtain ⟨ch, j, rfl⟩ := cover i
  obtain ⟨r, q, rfl⟩ : ∃ (r : Fin 2048) (q : Fin 256), j = ix2 r q := ⟨j 0, j 1, eq_ix2 j⟩
  rw [outAt_at, chunk_index]
  refine Eq.trans ?_ (block_at _ c r (wideCol ch q)).symm
  rw [sort_read]
  have h := congrFun (wAt_last m ρ ch q) (gpos c r)
  rw [col_gpos, chunk_col m ρ X hX] at h
  exact h

end Cert.Proof.KernelIdeal

namespace Cert.Proof

open Idealize.ShloMosaic Idealize.ShloMosaic.TcCoe Idealize.SL.Sem

/-- The kernel's result is, on every device, its block of the reference's. -/
theorem algebraic : Cert.algebraic_KernelIdeal_ReferenceIdeal := by
  intro m ρ m' ρ' _ hX
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c (1 : Fin 2)).trans ?_,
    (h.1 c (0 : Fin 2)).trans (KernelIdeal.finalA_x m ρ c)⟩) (KernelIdeal.run_main (F := Ideal) m ρ)
  exact (KernelIdeal.final_eq m ρ c).trans (KernelIdeal.out_eq m ρ _ hX c)

end Cert.Proof

end
-- ==== Proof.lean ====
/-
  The proof of `Cert.Claim`: the three programs' frames, that the kernel and its idealization are one program, and that the
  kernel's result is the reference's. The kernel is a bitonic sort of every column of an array cut by rows over 32 devices.
    * Proof/KernelIdeal/Program, BodyEq, MachineEq: the printed body as a sequence of the exchanges of two column chunks.
    * Proof/KernelIdeal/Protocol, Pieces, Steps, Body: what the devices' semaphores hand over, and one device's run.
    * Proof/KernelIdeal/Data, Launch, Run: the run of all devices.
    * Proof/KernelIdeal/Machine: the printed kernel is the same program.
    * Proof/Bitonic/Network, Reference: the network, and the reference's sort as its result.
    * Proof/KernelIdeal/Words, Column, Value: the working buffers as the network's stages, and the value claim.
-/
module

public import proofs.«01_k».proof.Defs
public import Idealize.ShloMosaic.Lib.Quiescent
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelIdeal.Machine
public import proofs.«01_k».proof.Proof.KernelIdeal.Run
public import proofs.«01_k».proof.Proof.KernelIdeal.Value

@[expose] public section

noncomputable section

namespace Cert.Proof

open Idealize.ShloMosaic Idealize.ShloMosaic.TcCoe Idealize.SL.Sem

/-- The idealization's frame: its run, read at the argument, which no store reaches. -/
theorem frame_pi : Cert.quiescent_KernelIdeal := by
  intro m ρ _
  exact (θ_run Cert.KernelIdeal.defs _ _).mono
    (fun _ h => ⟨fun c => (h.1 c (0 : Fin 2)).trans (KernelIdeal.finalA_x m ρ c), h.2⟩) (KernelIdeal.run_main (F := Ideal) m ρ)

/-- The kernel's frame: it is the same program, and the run holds of any float values. -/
theorem frame_p : Cert.quiescent_Kernel := by
  intro m ρ _
  rw [KernelIdeal.machine_defs, KernelIdeal.machine_main]
  exact (θ_run Cert.KernelIdeal.defs _ _).mono
    (fun _ h => ⟨fun c => (h.1 c (0 : Fin 2)).trans (KernelIdeal.finalA_x m ρ c), h.2⟩) (KernelIdeal.run_main (F := Bits) m ρ)

/-- The reference's frame: its run; it has no semaphore. -/
theorem frame_r : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run (F := Ideal) m ρ)

theorem claim : Cert.Claim :=
  ⟨Cert.Kernel.Gen.facts, Cert.KernelIdeal.Gen.facts, Cert.ReferenceIdeal.Gen.facts, frame_p, frame_pi, frame_r, trivial, algebraic⟩

end Cert.Proof

end
